-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S8x512x4096 : Shape := ⟨3, ![8, 512, 4096]⟩
abbrev S8x512x256 : Shape := ⟨3, ![8, 512, 256]⟩
abbrev S4 : Shape := ⟨1, ![4]⟩
abbrev S2x4 : Shape := ⟨2, ![2, 4]⟩
abbrev S2x3x6 : Shape := ⟨3, ![2, 3, 6]⟩
abbrev S48 : Shape := ⟨1, ![48]⟩
abbrev S_ : Shape := ⟨0, ![]⟩
abbrev S128x4096 : Shape := ⟨2, ![128, 4096]⟩
abbrev S1x128x4096 : Shape := ⟨3, ![1, 128, 4096]⟩
abbrev S1x1x1 : Shape := ⟨3, ![1, 1, 1]⟩
abbrev S1x1 : Shape := ⟨2, ![1, 1]⟩
abbrev S1x64x4096 : Shape := ⟨3, ![1, 64, 4096]⟩
abbrev S64x4096 : Shape := ⟨2, ![64, 4096]⟩
abbrev S128x256 : Shape := ⟨2, ![128, 256]⟩
abbrev S1x128x256 : Shape := ⟨3, ![1, 128, 256]⟩
abbrev S64x256 : Shape := ⟨2, ![64, 256]⟩
abbrev S1x64x256 : Shape := ⟨3, ![1, 64, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S8x512x4096, .fp8e4m3⟩
  | .local _ .vmem, ⟨1, _⟩ => ⟨S512x4096, .f32⟩
  | .local _ .vmem, ⟨2, _⟩ => ⟨S4096x256, .f32⟩
  | .local _ .vmem, ⟨3, _⟩ => ⟨S4096x256, .fp8e5m2⟩
  | .local _ .vmem, ⟨4, _⟩ => ⟨S8x512x256, .f32⟩
  | .local _ .smem, ⟨0, _⟩ => ⟨S1, .f32⟩
  | .local _ .smem, ⟨1, _⟩ => ⟨S1, .f32⟩
  | _, _ => ⟨S512x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 143 → Bool
  | ⟨i, _⟩ => dmaSemScopedAt i

abbrev sig : RefSig :=
  (ofTc nBuf bufTy 1 143 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_22 : BitVec 32 := 1#32
  let v32 : BitVec 32 := Scalar.muli v10 c1_i32_22
  let v33 : BitVec 32 := Scalar.addi c0_i32_23 v32
  v33.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_25 : BitVec 32 := 1#32
  let v34 : BitVec 32 := Scalar.muli v7 c1_i32_25
  let v35 : BitVec 32 := Scalar.addi c0_i32_26 v34
  v35.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_28 : BitVec 32 := 1#32
  let v36 : BitVec 32 := Scalar.muli v12 c1_i32_28
  let v37 : BitVec 32 := Scalar.addi c0_i32_29 v36
  v37.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : Index := Scalar.indexCast v2
  let c0_39 : Index := 0#32
  let c0_40 : Index := 0#32
  ![v47.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let c0_i32_50 : BitVec 32 := 0#32
  ![v2.toNat, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_47 : BitVec 32 := 1#32
  let v51 : BitVec 32 := Scalar.muli v7 c1_i32_47
  let v52 : BitVec 32 := Scalar.addi c0_i32_48 v51
  v52.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let c0_i32_60 : BitVec 32 := 0#32
  ![v2.toNat, 0, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_57 : BitVec 32 := 1#32
  let v61 : BitVec 32 := Scalar.muli v12 c1_i32_57
  let v62 : BitVec 32 := Scalar.addi c0_i32_58 v61
  v62.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let c0_i32_69 : BitVec 32 := 0#32
  ![v2.toNat, 64, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_67 : BitVec 32 := 1#32
  let v71 : BitVec 32 := Scalar.muli v12 c1_i32_67
  let v72 : BitVec 32 := Scalar.addi c0_i32_68 v71
  v72.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : Index := Scalar.indexCast v2
  let c256_78 : Index := 256#32
  let c0_79 : Index := 0#32
  ![v87.toNat, 256, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_88 : BitVec 32 := 256#32
  let c0_i32_89 : BitVec 32 := 0#32
  ![v2.toNat, 256, 0]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_86 : BitVec 32 := 1#32
  let v91 : BitVec 32 := Scalar.muli v10 c1_i32_86
  let v92 : BitVec 32 := Scalar.addi c0_i32_87 v91
  v92.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_98 : BitVec 32 := 256#32
  let c0_i32_99 : BitVec 32 := 0#32
  ![v2.toNat, 256, 0]
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_96 : BitVec 32 := 1#32
  let v101 : BitVec 32 := Scalar.muli v12 c1_i32_96
  let v102 : BitVec 32 := Scalar.addi c0_i32_97 v101
  v102.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32 : BitVec 32 := 320#32
  let c0_i32_108 : BitVec 32 := 0#32
  ![v2.toNat, 320, 0]
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_106 : BitVec 32 := 1#32
  let v111 : BitVec 32 := Scalar.muli v12 c1_i32_106
  let v112 : BitVec 32 := Scalar.addi c0_i32_107 v111
  v112.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v127 : Index := Scalar.indexCast v2
  let c128_117 : Index := 128#32
  let c0_118 : Index := 0#32
  ![v127.toNat, 128, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_127 : BitVec 32 := 128#32
  let c0_i32_128 : BitVec 32 := 0#32
  ![v2.toNat, 128, 0]
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_125 : BitVec 32 := 1#32
  let v131 : BitVec 32 := Scalar.muli v7 c1_i32_125
  let v132 : BitVec 32 := Scalar.addi c0_i32_126 v131
  v132.toNat
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_137 : BitVec 32 := 128#32
  let c0_i32_138 : BitVec 32 := 0#32
  ![v2.toNat, 128, 0]
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_135 : BitVec 32 := 1#32
  let v141 : BitVec 32 := Scalar.muli v12 c1_i32_135
  let v142 : BitVec 32 := Scalar.addi c0_i32_136 v141
  v142.toNat
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32 : BitVec 32 := 192#32
  let c0_i32_147 : BitVec 32 := 0#32
  ![v2.toNat, 192, 0]
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_145 : BitVec 32 := 1#32
  let v151 : BitVec 32 := Scalar.muli v12 c1_i32_145
  let v152 : BitVec 32 := Scalar.addi c0_i32_146 v151
  v152.toNat
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v167 : Index := Scalar.indexCast v2
  let c384_156 : Index := 384#32
  let c0_157 : Index := 0#32
  ![v167.toNat, 384, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_166 : BitVec 32 := 384#32
  let c0_i32_167 : BitVec 32 := 0#32
  ![v2.toNat, 384, 0]
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_164 : BitVec 32 := 1#32
  let v171 : BitVec 32 := Scalar.muli v10 c1_i32_164
  let v172 : BitVec 32 := Scalar.addi c0_i32_165 v171
  v172.toNat
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_176 : BitVec 32 := 384#32
  let c0_i32_177 : BitVec 32 := 0#32
  ![v2.toNat, 384, 0]
def k0_dev14 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_174 : BitVec 32 := 1#32
  let v181 : BitVec 32 := Scalar.muli v12 c1_i32_174
  let v182 : BitVec 32 := Scalar.addi c0_i32_175 v181
  v182.toNat
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32 : BitVec 32 := 448#32
  let c0_i32_186 : BitVec 32 := 0#32
  ![v2.toNat, 448, 0]
def k0_dev15 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_184 : BitVec 32 := 1#32
  let v191 : BitVec 32 := Scalar.muli v12 c1_i32_184
  let v192 : BitVec 32 := Scalar.addi c0_i32_185 v191
  v192.toNat
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v217 : Index := Scalar.indexCast v2
  let c0_198 : Index := 0#32
  let c0_199 : Index := 0#32
  ![v217.toNat, 0, 0]
def k0_off18 (d0 : Dev nD) (c0_i32_200 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v221 : BitVec 32 := Scalar.muli v2 c512_i32
  let v222 : BitVec 32 := Scalar.addi v221 c0_i32_200
  let c0_i32_202 : BitVec 32 := 0#32
  ![v222.toNat, 0]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_203 : BitVec 32 := 0#32
  let c0_i32_204 : BitVec 32 := 0#32
  ![v2.toNat, 0, 0]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v237 : Index := Scalar.indexCast v2
  let c128_210 : Index := 128#32
  let c0_211 : Index := 0#32
  ![v237.toNat, 128, 0]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_216 : BitVec 32 := 128#32
  let c0_i32_217 : BitVec 32 := 0#32
  ![v2.toNat, 128, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v257 : Index := Scalar.indexCast v2
  let c256_223 : Index := 256#32
  let c0_224 : Index := 0#32
  ![v257.toNat, 256, 0]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_229 : BitVec 32 := 256#32
  let c0_i32_230 : BitVec 32 := 0#32
  ![v2.toNat, 256, 0]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v277 : Index := Scalar.indexCast v2
  let c384_236 : Index := 384#32
  let c0_237 : Index := 0#32
  ![v277.toNat, 384, 0]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_242 : BitVec 32 := 384#32
  let c0_i32_243 : BitVec 32 := 0#32
  ![v2.toNat, 384, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c0_i32_262 : BitVec 32 := 0#32
  let c0_i32_263 : BitVec 32 := 0#32
  ![v12.toNat, 0, 0]
def k0_dev16 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_260 : BitVec 32 := 1#32
  let v296 : BitVec 32 := Scalar.muli v7 c1_i32_260
  let v297 : BitVec 32 := Scalar.addi c0_i32_261 v296
  v297.toNat
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v306 : Index := Scalar.indexCast v12
  let c0_266 : Index := 0#32
  let c0_267 : Index := 0#32
  ![v306.toNat, 0, 0]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v315 : Index := Scalar.indexCast v12
  let c0_271 : Index := 0#32
  let c0_272 : Index := 0#32
  ![v315.toNat, 0, 0]
def k0_off29 (d0 : Dev nD) (c0_i32_274 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c512_i32_273 : BitVec 32 := 512#32
  let v319 : BitVec 32 := Scalar.muli v12 c512_i32_273
  let v320 : BitVec 32 := Scalar.addi v319 c0_i32_274
  let c0_i32_276 : BitVec 32 := 0#32
  ![v320.toNat, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c0_i32_277 : BitVec 32 := 0#32
  let c0_i32_278 : BitVec 32 := 0#32
  ![v12.toNat, 0, 0]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c64_i32_297 : BitVec 32 := 64#32
  let c0_i32_298 : BitVec 32 := 0#32
  ![v12.toNat, 64, 0]
def k0_dev17 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_295 : BitVec 32 := 1#32
  let v334 : BitVec 32 := Scalar.muli v7 c1_i32_295
  let v335 : BitVec 32 := Scalar.addi c0_i32_296 v334
  v335.toNat
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v344 : Index := Scalar.indexCast v12
  let c64 : Index := 64#32
  let c0_301 : Index := 0#32
  ![v344.toNat, 64, 0]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v353 : Index := Scalar.indexCast v12
  let c64_305 : Index := 64#32
  let c0_306 : Index := 0#32
  ![v353.toNat, 64, 0]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c64_i32_310 : BitVec 32 := 64#32
  let c0_i32_311 : BitVec 32 := 0#32
  ![v12.toNat, 64, 0]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c256_i32_330 : BitVec 32 := 256#32
  let c0_i32_331 : BitVec 32 := 0#32
  ![v12.toNat, 256, 0]
def k0_dev18 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_328 : BitVec 32 := 1#32
  let v372 : BitVec 32 := Scalar.muli v10 c1_i32_328
  let v373 : BitVec 32 := Scalar.addi c0_i32_329 v372
  v373.toNat
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v382 : Index := Scalar.indexCast v12
  let c256_334 : Index := 256#32
  let c0_335 : Index := 0#32
  ![v382.toNat, 256, 0]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v391 : Index := Scalar.indexCast v12
  let c256_339 : Index := 256#32
  let c0_340 : Index := 0#32
  ![v391.toNat, 256, 0]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c256_i32_344 : BitVec 32 := 256#32
  let c0_i32_345 : BitVec 32 := 0#32
  ![v12.toNat, 256, 0]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c320_i32_364 : BitVec 32 := 320#32
  let c0_i32_365 : BitVec 32 := 0#32
  ![v12.toNat, 320, 0]
def k0_dev19 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_362 : BitVec 32 := 1#32
  let v410 : BitVec 32 := Scalar.muli v10 c1_i32_362
  let v411 : BitVec 32 := Scalar.addi c0_i32_363 v410
  v411.toNat
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v420 : Index := Scalar.indexCast v12
  let c320 : Index := 320#32
  let c0_368 : Index := 0#32
  ![v420.toNat, 320, 0]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v429 : Index := Scalar.indexCast v12
  let c320_372 : Index := 320#32
  let c0_373 : Index := 0#32
  ![v429.toNat, 320, 0]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c320_i32_377 : BitVec 32 := 320#32
  let c0_i32_378 : BitVec 32 := 0#32
  ![v12.toNat, 320, 0]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c128_i32_397 : BitVec 32 := 128#32
  let c0_i32_398 : BitVec 32 := 0#32
  ![v12.toNat, 128, 0]
def k0_dev20 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_395 : BitVec 32 := 1#32
  let v448 : BitVec 32 := Scalar.muli v7 c1_i32_395
  let v449 : BitVec 32 := Scalar.addi c0_i32_396 v448
  v449.toNat
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v458 : Index := Scalar.indexCast v12
  let c128_401 : Index := 128#32
  let c0_402 : Index := 0#32
  ![v458.toNat, 128, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v467 : Index := Scalar.indexCast v12
  let c128_406 : Index := 128#32
  let c0_407 : Index := 0#32
  ![v467.toNat, 128, 0]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c128_i32_412 : BitVec 32 := 128#32
  let c0_i32_413 : BitVec 32 := 0#32
  ![v12.toNat, 128, 0]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c192_i32_432 : BitVec 32 := 192#32
  let c0_i32_433 : BitVec 32 := 0#32
  ![v12.toNat, 192, 0]
def k0_dev21 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_430 : BitVec 32 := 1#32
  let v486 : BitVec 32 := Scalar.muli v7 c1_i32_430
  let v487 : BitVec 32 := Scalar.addi c0_i32_431 v486
  v487.toNat
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v496 : Index := Scalar.indexCast v12
  let c192 : Index := 192#32
  let c0_436 : Index := 0#32
  ![v496.toNat, 192, 0]
def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v505 : Index := Scalar.indexCast v12
  let c192_440 : Index := 192#32
  let c0_441 : Index := 0#32
  ![v505.toNat, 192, 0]
def k0_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c192_i32_445 : BitVec 32 := 192#32
  let c0_i32_446 : BitVec 32 := 0#32
  ![v12.toNat, 192, 0]
def k0_off51 (d0 : Dev nD) (c1_i32_459 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v524 : BitVec 32 := Scalar.subi v3 c1_i32_459
  let c4_i32_460 : BitVec 32 := 4#32
  let v525 : BitVec 32 := Scalar.addi v524 c4_i32_460
  let c4_i32_461 : BitVec 32 := 4#32
  let v526 : BitVec 32 := Scalar.remsi v525 c4_i32_461
  let v527 : BitVec 32 := Scalar.addi v4 v526
  let c0_i32_470 : BitVec 32 := 0#32
  let c0_i32_471 : BitVec 32 := 0#32
  ![v527.toNat, 0, 0]
def k0_dev22 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_468 : BitVec 32 := 1#32
  let v528 : BitVec 32 := Scalar.muli v7 c1_i32_468
  let v529 : BitVec 32 := Scalar.addi c0_i32_469 v528
  v529.toNat
def k0_off52 (d0 : Dev nD) (c1_i32_486 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v546 : BitVec 32 := Scalar.addi v3 c1_i32_486
  let c4_i32_487 : BitVec 32 := 4#32
  let v547 : BitVec 32 := Scalar.remsi v546 c4_i32_487
  let v548 : BitVec 32 := Scalar.addi v4 v547
  let c256_i32_496 : BitVec 32 := 256#32
  let c0_i32_497 : BitVec 32 := 0#32
  ![v548.toNat, 256, 0]
def k0_dev23 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_494 : BitVec 32 := 1#32
  let v549 : BitVec 32 := Scalar.muli v10 c1_i32_494
  let v550 : BitVec 32 := Scalar.addi c0_i32_495 v549
  v550.toNat
def k0_off53 (d0 : Dev nD) (c1_i32_500 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v559 : BitVec 32 := Scalar.subi v3 c1_i32_500
  let c4_i32_501 : BitVec 32 := 4#32
  let v560 : BitVec 32 := Scalar.addi v559 c4_i32_501
  let c4_i32_502 : BitVec 32 := 4#32
  let v561 : BitVec 32 := Scalar.remsi v560 c4_i32_502
  let v562 : BitVec 32 := Scalar.addi v4 v561
  let v563 : Index := Scalar.indexCast v562
  let c0_503 : Index := 0#32
  let c0_504 : Index := 0#32
  ![v563.toNat, 0, 0]
def k0_off54 (d0 : Dev nD) (c1_i32_500 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v559 : BitVec 32 := Scalar.subi v3 c1_i32_500
  let c4_i32_501 : BitVec 32 := 4#32
  let v560 : BitVec 32 := Scalar.addi v559 c4_i32_501
  let c4_i32_502 : BitVec 32 := 4#32
  let v561 : BitVec 32 := Scalar.remsi v560 c4_i32_502
  let v562 : BitVec 32 := Scalar.addi v4 v561
  let v572 : Index := Scalar.indexCast v562
  let c0_508 : Index := 0#32
  let c0_509 : Index := 0#32
  ![v572.toNat, 0, 0]
def k0_off55 (d0 : Dev nD) (c1_i32_500 : BitVec 32) (c0_i32_511 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v559 : BitVec 32 := Scalar.subi v3 c1_i32_500
  let c4_i32_501 : BitVec 32 := 4#32
  let v560 : BitVec 32 := Scalar.addi v559 c4_i32_501
  let c4_i32_502 : BitVec 32 := 4#32
  let v561 : BitVec 32 := Scalar.remsi v560 c4_i32_502
  let v562 : BitVec 32 := Scalar.addi v4 v561
  let c512_i32_510 : BitVec 32 := 512#32
  let v576 : BitVec 32 := Scalar.muli v562 c512_i32_510
  let v577 : BitVec 32 := Scalar.addi v576 c0_i32_511
  let c0_i32_512 : BitVec 32 := 0#32
  ![v577.toNat, 0]
def k0_off56 (d0 : Dev nD) (c1_i32_500 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v559 : BitVec 32 := Scalar.subi v3 c1_i32_500
  let c4_i32_501 : BitVec 32 := 4#32
  let v560 : BitVec 32 := Scalar.addi v559 c4_i32_501
  let c4_i32_502 : BitVec 32 := 4#32
  let v561 : BitVec 32 := Scalar.remsi v560 c4_i32_502
  let v562 : BitVec 32 := Scalar.addi v4 v561
  let c0_i32_513 : BitVec 32 := 0#32
  let c0_i32_514 : BitVec 32 := 0#32
  ![v562.toNat, 0, 0]
def k0_off57 (d0 : Dev nD) (c1_i32_515 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v583 : BitVec 32 := Scalar.addi v3 c1_i32_515
  let c4_i32_516 : BitVec 32 := 4#32
  let v584 : BitVec 32 := Scalar.remsi v583 c4_i32_516
  let v585 : BitVec 32 := Scalar.addi v4 v584
  let v586 : Index := Scalar.indexCast v585
  let c256_517 : Index := 256#32
  let c0_518 : Index := 0#32
  ![v586.toNat, 256, 0]
def k0_off58 (d0 : Dev nD) (c1_i32_515 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v583 : BitVec 32 := Scalar.addi v3 c1_i32_515
  let c4_i32_516 : BitVec 32 := 4#32
  let v584 : BitVec 32 := Scalar.remsi v583 c4_i32_516
  let v585 : BitVec 32 := Scalar.addi v4 v584
  let v595 : Index := Scalar.indexCast v585
  let c256_522 : Index := 256#32
  let c0_523 : Index := 0#32
  ![v595.toNat, 256, 0]
def k0_off59 (d0 : Dev nD) (c1_i32_515 : BitVec 32) (c256_i32_525 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v583 : BitVec 32 := Scalar.addi v3 c1_i32_515
  let c4_i32_516 : BitVec 32 := 4#32
  let v584 : BitVec 32 := Scalar.remsi v583 c4_i32_516
  let v585 : BitVec 32 := Scalar.addi v4 v584
  let c512_i32_524 : BitVec 32 := 512#32
  let v599 : BitVec 32 := Scalar.muli v585 c512_i32_524
  let v600 : BitVec 32 := Scalar.addi v599 c256_i32_525
  let c0_i32_526 : BitVec 32 := 0#32
  ![v600.toNat, 0]
def k0_off60 (d0 : Dev nD) (c1_i32_515 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v583 : BitVec 32 := Scalar.addi v3 c1_i32_515
  let c4_i32_516 : BitVec 32 := 4#32
  let v584 : BitVec 32 := Scalar.remsi v583 c4_i32_516
  let v585 : BitVec 32 := Scalar.addi v4 v584
  let c256_i32_527 : BitVec 32 := 256#32
  let c0_i32_528 : BitVec 32 := 0#32
  ![v585.toNat, 256, 0]
def k0_off61 (d0 : Dev nD) (c1_i32_541 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v614 : BitVec 32 := Scalar.subi v3 c1_i32_541
  let c4_i32_542 : BitVec 32 := 4#32
  let v615 : BitVec 32 := Scalar.addi v614 c4_i32_542
  let c4_i32_543 : BitVec 32 := 4#32
  let v616 : BitVec 32 := Scalar.remsi v615 c4_i32_543
  let v617 : BitVec 32 := Scalar.addi v4 v616
  let c128_i32_552 : BitVec 32 := 128#32
  let c0_i32_553 : BitVec 32 := 0#32
  ![v617.toNat, 128, 0]
def k0_dev24 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_550 : BitVec 32 := 1#32
  let v618 : BitVec 32 := Scalar.muli v7 c1_i32_550
  let v619 : BitVec 32 := Scalar.addi c0_i32_551 v618
  v619.toNat
def k0_off62 (d0 : Dev nD) (c1_i32_568 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v636 : BitVec 32 := Scalar.addi v3 c1_i32_568
  let c4_i32_569 : BitVec 32 := 4#32
  let v637 : BitVec 32 := Scalar.remsi v636 c4_i32_569
  let v638 : BitVec 32 := Scalar.addi v4 v637
  let c384_i32_578 : BitVec 32 := 384#32
  let c0_i32_579 : BitVec 32 := 0#32
  ![v638.toNat, 384, 0]
def k0_dev25 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_576 : BitVec 32 := 1#32
  let v639 : BitVec 32 := Scalar.muli v10 c1_i32_576
  let v640 : BitVec 32 := Scalar.addi c0_i32_577 v639
  v640.toNat
def k0_off63 (d0 : Dev nD) (c1_i32_582 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v649 : BitVec 32 := Scalar.subi v3 c1_i32_582
  let c4_i32_583 : BitVec 32 := 4#32
  let v650 : BitVec 32 := Scalar.addi v649 c4_i32_583
  let c4_i32_584 : BitVec 32 := 4#32
  let v651 : BitVec 32 := Scalar.remsi v650 c4_i32_584
  let v652 : BitVec 32 := Scalar.addi v4 v651
  let v653 : Index := Scalar.indexCast v652
  let c128_585 : Index := 128#32
  let c0_586 : Index := 0#32
  ![v653.toNat, 128, 0]
def k0_off64 (d0 : Dev nD) (c1_i32_582 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v649 : BitVec 32 := Scalar.subi v3 c1_i32_582
  let c4_i32_583 : BitVec 32 := 4#32
  let v650 : BitVec 32 := Scalar.addi v649 c4_i32_583
  let c4_i32_584 : BitVec 32 := 4#32
  let v651 : BitVec 32 := Scalar.remsi v650 c4_i32_584
  let v652 : BitVec 32 := Scalar.addi v4 v651
  let v662 : Index := Scalar.indexCast v652
  let c128_590 : Index := 128#32
  let c0_591 : Index := 0#32
  ![v662.toNat, 128, 0]
def k0_off65 (d0 : Dev nD) (c1_i32_582 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v649 : BitVec 32 := Scalar.subi v3 c1_i32_582
  let c4_i32_583 : BitVec 32 := 4#32
  let v650 : BitVec 32 := Scalar.addi v649 c4_i32_583
  let c4_i32_584 : BitVec 32 := 4#32
  let v651 : BitVec 32 := Scalar.remsi v650 c4_i32_584
  let v652 : BitVec 32 := Scalar.addi v4 v651
  let c128_i32_595 : BitVec 32 := 128#32
  let c0_i32_596 : BitVec 32 := 0#32
  ![v652.toNat, 128, 0]
def k0_off66 (d0 : Dev nD) (c1_i32_597 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v673 : BitVec 32 := Scalar.addi v3 c1_i32_597
  let c4_i32_598 : BitVec 32 := 4#32
  let v674 : BitVec 32 := Scalar.remsi v673 c4_i32_598
  let v675 : BitVec 32 := Scalar.addi v4 v674
  let v676 : Index := Scalar.indexCast v675
  let c384_599 : Index := 384#32
  let c0_600 : Index := 0#32
  ![v676.toNat, 384, 0]
def k0_off67 (d0 : Dev nD) (c1_i32_597 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v673 : BitVec 32 := Scalar.addi v3 c1_i32_597
  let c4_i32_598 : BitVec 32 := 4#32
  let v674 : BitVec 32 := Scalar.remsi v673 c4_i32_598
  let v675 : BitVec 32 := Scalar.addi v4 v674
  let v685 : Index := Scalar.indexCast v675
  let c384_604 : Index := 384#32
  let c0_605 : Index := 0#32
  ![v685.toNat, 384, 0]
def k0_off68 (d0 : Dev nD) (c1_i32_597 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v673 : BitVec 32 := Scalar.addi v3 c1_i32_597
  let c4_i32_598 : BitVec 32 := 4#32
  let v674 : BitVec 32 := Scalar.remsi v673 c4_i32_598
  let v675 : BitVec 32 := Scalar.addi v4 v674
  let c384_i32_609 : BitVec 32 := 384#32
  let c0_i32_610 : BitVec 32 := 0#32
  ![v675.toNat, 384, 0]
def k0_off69 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c384_i32_629 : BitVec 32 := 384#32
  let c0_i32_630 : BitVec 32 := 0#32
  ![v12.toNat, 384, 0]
def k0_dev26 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_627 : BitVec 32 := 1#32
  let v704 : BitVec 32 := Scalar.muli v10 c1_i32_627
  let v705 : BitVec 32 := Scalar.addi c0_i32_628 v704
  v705.toNat
def k0_off70 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v714 : Index := Scalar.indexCast v12
  let c384_633 : Index := 384#32
  let c0_634 : Index := 0#32
  ![v714.toNat, 384, 0]
def k0_off71 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v723 : Index := Scalar.indexCast v12
  let c384_638 : Index := 384#32
  let c0_639 : Index := 0#32
  ![v723.toNat, 384, 0]
def k0_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c384_i32_643 : BitVec 32 := 384#32
  let c0_i32_644 : BitVec 32 := 0#32
  ![v12.toNat, 384, 0]
def k0_off73 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c448_i32_663 : BitVec 32 := 448#32
  let c0_i32_664 : BitVec 32 := 0#32
  ![v12.toNat, 448, 0]
def k0_dev27 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_661 : BitVec 32 := 1#32
  let v742 : BitVec 32 := Scalar.muli v10 c1_i32_661
  let v743 : BitVec 32 := Scalar.addi c0_i32_662 v742
  v743.toNat
def k0_off74 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v752 : Index := Scalar.indexCast v12
  let c448 : Index := 448#32
  let c0_667 : Index := 0#32
  ![v752.toNat, 448, 0]
def k0_off75 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v761 : Index := Scalar.indexCast v12
  let c448_671 : Index := 448#32
  let c0_672 : Index := 0#32
  ![v761.toNat, 448, 0]
def k0_off76 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c448_i32_676 : BitVec 32 := 448#32
  let c0_i32_677 : BitVec 32 := 0#32
  ![v12.toNat, 448, 0]
def k0_off77 (d0 : Dev nD) (c1_i32_690 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v780 : BitVec 32 := Scalar.subi v3 c1_i32_690
  let c4_i32_691 : BitVec 32 := 4#32
  let v781 : BitVec 32 := Scalar.addi v780 c4_i32_691
  let c4_i32_692 : BitVec 32 := 4#32
  let v782 : BitVec 32 := Scalar.remsi v781 c4_i32_692
  let v783 : BitVec 32 := Scalar.addi v4 v782
  let c4_i32_693 : BitVec 32 := 4#32
  let v784 : BitVec 32 := Scalar.addi v783 c4_i32_693
  let c8_i32_694 : BitVec 32 := 8#32
  let v785 : BitVec 32 := Scalar.remsi v784 c8_i32_694
  let c0_i32_703 : BitVec 32 := 0#32
  let c0_i32_704 : BitVec 32 := 0#32
  ![v785.toNat, 0, 0]
def k0_dev28 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_701 : BitVec 32 := 1#32
  let v786 : BitVec 32 := Scalar.muli v7 c1_i32_701
  let v787 : BitVec 32 := Scalar.addi c0_i32_702 v786
  v787.toNat
def k0_off78 (d0 : Dev nD) (c1_i32_719 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v804 : BitVec 32 := Scalar.addi v3 c1_i32_719
  let c4_i32_720 : BitVec 32 := 4#32
  let v805 : BitVec 32 := Scalar.remsi v804 c4_i32_720
  let v806 : BitVec 32 := Scalar.addi v4 v805
  let c4_i32_721 : BitVec 32 := 4#32
  let v807 : BitVec 32 := Scalar.addi v806 c4_i32_721
  let c8_i32_722 : BitVec 32 := 8#32
  let v808 : BitVec 32 := Scalar.remsi v807 c8_i32_722
  let c256_i32_731 : BitVec 32 := 256#32
  let c0_i32_732 : BitVec 32 := 0#32
  ![v808.toNat, 256, 0]
def k0_dev29 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_729 : BitVec 32 := 1#32
  let v809 : BitVec 32 := Scalar.muli v10 c1_i32_729
  let v810 : BitVec 32 := Scalar.addi c0_i32_730 v809
  v810.toNat
def k0_off79 (d0 : Dev nD) (c1_i32_735 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v819 : BitVec 32 := Scalar.subi v3 c1_i32_735
  let c4_i32_736 : BitVec 32 := 4#32
  let v820 : BitVec 32 := Scalar.addi v819 c4_i32_736
  let c4_i32_737 : BitVec 32 := 4#32
  let v821 : BitVec 32 := Scalar.remsi v820 c4_i32_737
  let v822 : BitVec 32 := Scalar.addi v4 v821
  let c4_i32_738 : BitVec 32 := 4#32
  let v823 : BitVec 32 := Scalar.addi v822 c4_i32_738
  let c8_i32_739 : BitVec 32 := 8#32
  let v824 : BitVec 32 := Scalar.remsi v823 c8_i32_739
  let v825 : Index := Scalar.indexCast v824
  let c0_740 : Index := 0#32
  let c0_741 : Index := 0#32
  ![v825.toNat, 0, 0]
def k0_off80 (d0 : Dev nD) (c1_i32_735 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v819 : BitVec 32 := Scalar.subi v3 c1_i32_735
  let c4_i32_736 : BitVec 32 := 4#32
  let v820 : BitVec 32 := Scalar.addi v819 c4_i32_736
  let c4_i32_737 : BitVec 32 := 4#32
  let v821 : BitVec 32 := Scalar.remsi v820 c4_i32_737
  let v822 : BitVec 32 := Scalar.addi v4 v821
  let c4_i32_738 : BitVec 32 := 4#32
  let v823 : BitVec 32 := Scalar.addi v822 c4_i32_738
  let c8_i32_739 : BitVec 32 := 8#32
  let v824 : BitVec 32 := Scalar.remsi v823 c8_i32_739
  let v834 : Index := Scalar.indexCast v824
  let c0_745 : Index := 0#32
  let c0_746 : Index := 0#32
  ![v834.toNat, 0, 0]
def k0_off81 (d0 : Dev nD) (c1_i32_735 : BitVec 32) (c0_i32_748 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v819 : BitVec 32 := Scalar.subi v3 c1_i32_735
  let c4_i32_736 : BitVec 32 := 4#32
  let v820 : BitVec 32 := Scalar.addi v819 c4_i32_736
  let c4_i32_737 : BitVec 32 := 4#32
  let v821 : BitVec 32 := Scalar.remsi v820 c4_i32_737
  let v822 : BitVec 32 := Scalar.addi v4 v821
  let c4_i32_738 : BitVec 32 := 4#32
  let v823 : BitVec 32 := Scalar.addi v822 c4_i32_738
  let c8_i32_739 : BitVec 32 := 8#32
  let v824 : BitVec 32 := Scalar.remsi v823 c8_i32_739
  let c512_i32_747 : BitVec 32 := 512#32
  let v838 : BitVec 32 := Scalar.muli v824 c512_i32_747
  let v839 : BitVec 32 := Scalar.addi v838 c0_i32_748
  let c0_i32_749 : BitVec 32 := 0#32
  ![v839.toNat, 0]
def k0_off82 (d0 : Dev nD) (c1_i32_735 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v819 : BitVec 32 := Scalar.subi v3 c1_i32_735
  let c4_i32_736 : BitVec 32 := 4#32
  let v820 : BitVec 32 := Scalar.addi v819 c4_i32_736
  let c4_i32_737 : BitVec 32 := 4#32
  let v821 : BitVec 32 := Scalar.remsi v820 c4_i32_737
  let v822 : BitVec 32 := Scalar.addi v4 v821
  let c4_i32_738 : BitVec 32 := 4#32
  let v823 : BitVec 32 := Scalar.addi v822 c4_i32_738
  let c8_i32_739 : BitVec 32 := 8#32
  let v824 : BitVec 32 := Scalar.remsi v823 c8_i32_739
  let c0_i32_750 : BitVec 32 := 0#32
  let c0_i32_751 : BitVec 32 := 0#32
  ![v824.toNat, 0, 0]
def k0_off83 (d0 : Dev nD) (c1_i32_752 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v845 : BitVec 32 := Scalar.addi v3 c1_i32_752
  let c4_i32_753 : BitVec 32 := 4#32
  let v846 : BitVec 32 := Scalar.remsi v845 c4_i32_753
  let v847 : BitVec 32 := Scalar.addi v4 v846
  let c4_i32_754 : BitVec 32 := 4#32
  let v848 : BitVec 32 := Scalar.addi v847 c4_i32_754
  let c8_i32_755 : BitVec 32 := 8#32
  let v849 : BitVec 32 := Scalar.remsi v848 c8_i32_755
  let v850 : Index := Scalar.indexCast v849
  let c256_756 : Index := 256#32
  let c0_757 : Index := 0#32
  ![v850.toNat, 256, 0]
def k0_off84 (d0 : Dev nD) (c1_i32_752 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v845 : BitVec 32 := Scalar.addi v3 c1_i32_752
  let c4_i32_753 : BitVec 32 := 4#32
  let v846 : BitVec 32 := Scalar.remsi v845 c4_i32_753
  let v847 : BitVec 32 := Scalar.addi v4 v846
  let c4_i32_754 : BitVec 32 := 4#32
  let v848 : BitVec 32 := Scalar.addi v847 c4_i32_754
  let c8_i32_755 : BitVec 32 := 8#32
  let v849 : BitVec 32 := Scalar.remsi v848 c8_i32_755
  let v859 : Index := Scalar.indexCast v849
  let c256_761 : Index := 256#32
  let c0_762 : Index := 0#32
  ![v859.toNat, 256, 0]
def k0_off85 (d0 : Dev nD) (c1_i32_752 : BitVec 32) (c256_i32_764 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v845 : BitVec 32 := Scalar.addi v3 c1_i32_752
  let c4_i32_753 : BitVec 32 := 4#32
  let v846 : BitVec 32 := Scalar.remsi v845 c4_i32_753
  let v847 : BitVec 32 := Scalar.addi v4 v846
  let c4_i32_754 : BitVec 32 := 4#32
  let v848 : BitVec 32 := Scalar.addi v847 c4_i32_754
  let c8_i32_755 : BitVec 32 := 8#32
  let v849 : BitVec 32 := Scalar.remsi v848 c8_i32_755
  let c512_i32_763 : BitVec 32 := 512#32
  let v863 : BitVec 32 := Scalar.muli v849 c512_i32_763
  let v864 : BitVec 32 := Scalar.addi v863 c256_i32_764
  let c0_i32_765 : BitVec 32 := 0#32
  ![v864.toNat, 0]
def k0_off86 (d0 : Dev nD) (c1_i32_752 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v845 : BitVec 32 := Scalar.addi v3 c1_i32_752
  let c4_i32_753 : BitVec 32 := 4#32
  let v846 : BitVec 32 := Scalar.remsi v845 c4_i32_753
  let v847 : BitVec 32 := Scalar.addi v4 v846
  let c4_i32_754 : BitVec 32 := 4#32
  let v848 : BitVec 32 := Scalar.addi v847 c4_i32_754
  let c8_i32_755 : BitVec 32 := 8#32
  let v849 : BitVec 32 := Scalar.remsi v848 c8_i32_755
  let c256_i32_766 : BitVec 32 := 256#32
  let c0_i32_767 : BitVec 32 := 0#32
  ![v849.toNat, 256, 0]
def k0_off87 (d0 : Dev nD) (c1_i32_780 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v878 : BitVec 32 := Scalar.subi v3 c1_i32_780
  let c4_i32_781 : BitVec 32 := 4#32
  let v879 : BitVec 32 := Scalar.addi v878 c4_i32_781
  let c4_i32_782 : BitVec 32 := 4#32
  let v880 : BitVec 32 := Scalar.remsi v879 c4_i32_782
  let v881 : BitVec 32 := Scalar.addi v4 v880
  let c4_i32_783 : BitVec 32 := 4#32
  let v882 : BitVec 32 := Scalar.addi v881 c4_i32_783
  let c8_i32_784 : BitVec 32 := 8#32
  let v883 : BitVec 32 := Scalar.remsi v882 c8_i32_784
  let c64_i32_793 : BitVec 32 := 64#32
  let c0_i32_794 : BitVec 32 := 0#32
  ![v883.toNat, 64, 0]
def k0_dev30 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_791 : BitVec 32 := 1#32
  let v884 : BitVec 32 := Scalar.muli v7 c1_i32_791
  let v885 : BitVec 32 := Scalar.addi c0_i32_792 v884
  v885.toNat
def k0_off88 (d0 : Dev nD) (c1_i32_809 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v902 : BitVec 32 := Scalar.addi v3 c1_i32_809
  let c4_i32_810 : BitVec 32 := 4#32
  let v903 : BitVec 32 := Scalar.remsi v902 c4_i32_810
  let v904 : BitVec 32 := Scalar.addi v4 v903
  let c4_i32_811 : BitVec 32 := 4#32
  let v905 : BitVec 32 := Scalar.addi v904 c4_i32_811
  let c8_i32_812 : BitVec 32 := 8#32
  let v906 : BitVec 32 := Scalar.remsi v905 c8_i32_812
  let c320_i32_821 : BitVec 32 := 320#32
  let c0_i32_822 : BitVec 32 := 0#32
  ![v906.toNat, 320, 0]
def k0_dev31 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_819 : BitVec 32 := 1#32
  let v907 : BitVec 32 := Scalar.muli v10 c1_i32_819
  let v908 : BitVec 32 := Scalar.addi c0_i32_820 v907
  v908.toNat
def k0_off89 (d0 : Dev nD) (c1_i32_825 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v917 : BitVec 32 := Scalar.subi v3 c1_i32_825
  let c4_i32_826 : BitVec 32 := 4#32
  let v918 : BitVec 32 := Scalar.addi v917 c4_i32_826
  let c4_i32_827 : BitVec 32 := 4#32
  let v919 : BitVec 32 := Scalar.remsi v918 c4_i32_827
  let v920 : BitVec 32 := Scalar.addi v4 v919
  let c4_i32_828 : BitVec 32 := 4#32
  let v921 : BitVec 32 := Scalar.addi v920 c4_i32_828
  let c8_i32_829 : BitVec 32 := 8#32
  let v922 : BitVec 32 := Scalar.remsi v921 c8_i32_829
  let v923 : Index := Scalar.indexCast v922
  let c64_830 : Index := 64#32
  let c0_831 : Index := 0#32
  ![v923.toNat, 64, 0]
def k0_off90 (d0 : Dev nD) (c1_i32_825 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v917 : BitVec 32 := Scalar.subi v3 c1_i32_825
  let c4_i32_826 : BitVec 32 := 4#32
  let v918 : BitVec 32 := Scalar.addi v917 c4_i32_826
  let c4_i32_827 : BitVec 32 := 4#32
  let v919 : BitVec 32 := Scalar.remsi v918 c4_i32_827
  let v920 : BitVec 32 := Scalar.addi v4 v919
  let c4_i32_828 : BitVec 32 := 4#32
  let v921 : BitVec 32 := Scalar.addi v920 c4_i32_828
  let c8_i32_829 : BitVec 32 := 8#32
  let v922 : BitVec 32 := Scalar.remsi v921 c8_i32_829
  let v932 : Index := Scalar.indexCast v922
  let c64_835 : Index := 64#32
  let c0_836 : Index := 0#32
  ![v932.toNat, 64, 0]
def k0_off91 (d0 : Dev nD) (c1_i32_825 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v917 : BitVec 32 := Scalar.subi v3 c1_i32_825
  let c4_i32_826 : BitVec 32 := 4#32
  let v918 : BitVec 32 := Scalar.addi v917 c4_i32_826
  let c4_i32_827 : BitVec 32 := 4#32
  let v919 : BitVec 32 := Scalar.remsi v918 c4_i32_827
  let v920 : BitVec 32 := Scalar.addi v4 v919
  let c4_i32_828 : BitVec 32 := 4#32
  let v921 : BitVec 32 := Scalar.addi v920 c4_i32_828
  let c8_i32_829 : BitVec 32 := 8#32
  let v922 : BitVec 32 := Scalar.remsi v921 c8_i32_829
  let c64_i32_840 : BitVec 32 := 64#32
  let c0_i32_841 : BitVec 32 := 0#32
  ![v922.toNat, 64, 0]
def k0_off92 (d0 : Dev nD) (c1_i32_842 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v943 : BitVec 32 := Scalar.addi v3 c1_i32_842
  let c4_i32_843 : BitVec 32 := 4#32
  let v944 : BitVec 32 := Scalar.remsi v943 c4_i32_843
  let v945 : BitVec 32 := Scalar.addi v4 v944
  let c4_i32_844 : BitVec 32 := 4#32
  let v946 : BitVec 32 := Scalar.addi v945 c4_i32_844
  let c8_i32_845 : BitVec 32 := 8#32
  let v947 : BitVec 32 := Scalar.remsi v946 c8_i32_845
  let v948 : Index := Scalar.indexCast v947
  let c320_846 : Index := 320#32
  let c0_847 : Index := 0#32
  ![v948.toNat, 320, 0]
def k0_off93 (d0 : Dev nD) (c1_i32_842 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v943 : BitVec 32 := Scalar.addi v3 c1_i32_842
  let c4_i32_843 : BitVec 32 := 4#32
  let v944 : BitVec 32 := Scalar.remsi v943 c4_i32_843
  let v945 : BitVec 32 := Scalar.addi v4 v944
  let c4_i32_844 : BitVec 32 := 4#32
  let v946 : BitVec 32 := Scalar.addi v945 c4_i32_844
  let c8_i32_845 : BitVec 32 := 8#32
  let v947 : BitVec 32 := Scalar.remsi v946 c8_i32_845
  let v957 : Index := Scalar.indexCast v947
  let c320_851 : Index := 320#32
  let c0_852 : Index := 0#32
  ![v957.toNat, 320, 0]
def k0_off94 (d0 : Dev nD) (c1_i32_842 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v943 : BitVec 32 := Scalar.addi v3 c1_i32_842
  let c4_i32_843 : BitVec 32 := 4#32
  let v944 : BitVec 32 := Scalar.remsi v943 c4_i32_843
  let v945 : BitVec 32 := Scalar.addi v4 v944
  let c4_i32_844 : BitVec 32 := 4#32
  let v946 : BitVec 32 := Scalar.addi v945 c4_i32_844
  let c8_i32_845 : BitVec 32 := 8#32
  let v947 : BitVec 32 := Scalar.remsi v946 c8_i32_845
  let c320_i32_856 : BitVec 32 := 320#32
  let c0_i32_857 : BitVec 32 := 0#32
  ![v947.toNat, 320, 0]
def k0_off95 (d0 : Dev nD) (c1_i32_870 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v976 : BitVec 32 := Scalar.subi v3 c1_i32_870
  let c4_i32_871 : BitVec 32 := 4#32
  let v977 : BitVec 32 := Scalar.addi v976 c4_i32_871
  let c4_i32_872 : BitVec 32 := 4#32
  let v978 : BitVec 32 := Scalar.remsi v977 c4_i32_872
  let v979 : BitVec 32 := Scalar.addi v4 v978
  let c4_i32_873 : BitVec 32 := 4#32
  let v980 : BitVec 32 := Scalar.addi v979 c4_i32_873
  let c8_i32_874 : BitVec 32 := 8#32
  let v981 : BitVec 32 := Scalar.remsi v980 c8_i32_874
  let c128_i32_883 : BitVec 32 := 128#32
  let c0_i32_884 : BitVec 32 := 0#32
  ![v981.toNat, 128, 0]
def k0_dev32 (d0 : Dev nD) : Nat :=
  let c0_i32_882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_881 : BitVec 32 := 1#32
  let v982 : BitVec 32 := Scalar.muli v7 c1_i32_881
  let v983 : BitVec 32 := Scalar.addi c0_i32_882 v982
  v983.toNat
def k0_off96 (d0 : Dev nD) (c1_i32_899 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1000 : BitVec 32 := Scalar.addi v3 c1_i32_899
  let c4_i32_900 : BitVec 32 := 4#32
  let v1001 : BitVec 32 := Scalar.remsi v1000 c4_i32_900
  let v1002 : BitVec 32 := Scalar.addi v4 v1001
  let c4_i32_901 : BitVec 32 := 4#32
  let v1003 : BitVec 32 := Scalar.addi v1002 c4_i32_901
  let c8_i32_902 : BitVec 32 := 8#32
  let v1004 : BitVec 32 := Scalar.remsi v1003 c8_i32_902
  let c384_i32_911 : BitVec 32 := 384#32
  let c0_i32_912 : BitVec 32 := 0#32
  ![v1004.toNat, 384, 0]
def k0_dev33 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_909 : BitVec 32 := 1#32
  let v1005 : BitVec 32 := Scalar.muli v10 c1_i32_909
  let v1006 : BitVec 32 := Scalar.addi c0_i32_910 v1005
  v1006.toNat
def k0_off97 (d0 : Dev nD) (c1_i32_915 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1015 : BitVec 32 := Scalar.subi v3 c1_i32_915
  let c4_i32_916 : BitVec 32 := 4#32
  let v1016 : BitVec 32 := Scalar.addi v1015 c4_i32_916
  let c4_i32_917 : BitVec 32 := 4#32
  let v1017 : BitVec 32 := Scalar.remsi v1016 c4_i32_917
  let v1018 : BitVec 32 := Scalar.addi v4 v1017
  let c4_i32_918 : BitVec 32 := 4#32
  let v1019 : BitVec 32 := Scalar.addi v1018 c4_i32_918
  let c8_i32_919 : BitVec 32 := 8#32
  let v1020 : BitVec 32 := Scalar.remsi v1019 c8_i32_919
  let v1021 : Index := Scalar.indexCast v1020
  let c128_920 : Index := 128#32
  let c0_921 : Index := 0#32
  ![v1021.toNat, 128, 0]
def k0_off98 (d0 : Dev nD) (c1_i32_915 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1015 : BitVec 32 := Scalar.subi v3 c1_i32_915
  let c4_i32_916 : BitVec 32 := 4#32
  let v1016 : BitVec 32 := Scalar.addi v1015 c4_i32_916
  let c4_i32_917 : BitVec 32 := 4#32
  let v1017 : BitVec 32 := Scalar.remsi v1016 c4_i32_917
  let v1018 : BitVec 32 := Scalar.addi v4 v1017
  let c4_i32_918 : BitVec 32 := 4#32
  let v1019 : BitVec 32 := Scalar.addi v1018 c4_i32_918
  let c8_i32_919 : BitVec 32 := 8#32
  let v1020 : BitVec 32 := Scalar.remsi v1019 c8_i32_919
  let v1030 : Index := Scalar.indexCast v1020
  let c128_925 : Index := 128#32
  let c0_926 : Index := 0#32
  ![v1030.toNat, 128, 0]
def k0_off99 (d0 : Dev nD) (c1_i32_915 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1015 : BitVec 32 := Scalar.subi v3 c1_i32_915
  let c4_i32_916 : BitVec 32 := 4#32
  let v1016 : BitVec 32 := Scalar.addi v1015 c4_i32_916
  let c4_i32_917 : BitVec 32 := 4#32
  let v1017 : BitVec 32 := Scalar.remsi v1016 c4_i32_917
  let v1018 : BitVec 32 := Scalar.addi v4 v1017
  let c4_i32_918 : BitVec 32 := 4#32
  let v1019 : BitVec 32 := Scalar.addi v1018 c4_i32_918
  let c8_i32_919 : BitVec 32 := 8#32
  let v1020 : BitVec 32 := Scalar.remsi v1019 c8_i32_919
  let c128_i32_930 : BitVec 32 := 128#32
  let c0_i32_931 : BitVec 32 := 0#32
  ![v1020.toNat, 128, 0]
def k0_off100 (d0 : Dev nD) (c1_i32_932 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1041 : BitVec 32 := Scalar.addi v3 c1_i32_932
  let c4_i32_933 : BitVec 32 := 4#32
  let v1042 : BitVec 32 := Scalar.remsi v1041 c4_i32_933
  let v1043 : BitVec 32 := Scalar.addi v4 v1042
  let c4_i32_934 : BitVec 32 := 4#32
  let v1044 : BitVec 32 := Scalar.addi v1043 c4_i32_934
  let c8_i32_935 : BitVec 32 := 8#32
  let v1045 : BitVec 32 := Scalar.remsi v1044 c8_i32_935
  let v1046 : Index := Scalar.indexCast v1045
  let c384_936 : Index := 384#32
  let c0_937 : Index := 0#32
  ![v1046.toNat, 384, 0]
def k0_off101 (d0 : Dev nD) (c1_i32_932 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1041 : BitVec 32 := Scalar.addi v3 c1_i32_932
  let c4_i32_933 : BitVec 32 := 4#32
  let v1042 : BitVec 32 := Scalar.remsi v1041 c4_i32_933
  let v1043 : BitVec 32 := Scalar.addi v4 v1042
  let c4_i32_934 : BitVec 32 := 4#32
  let v1044 : BitVec 32 := Scalar.addi v1043 c4_i32_934
  let c8_i32_935 : BitVec 32 := 8#32
  let v1045 : BitVec 32 := Scalar.remsi v1044 c8_i32_935
  let v1055 : Index := Scalar.indexCast v1045
  let c384_941 : Index := 384#32
  let c0_942 : Index := 0#32
  ![v1055.toNat, 384, 0]
def k0_off102 (d0 : Dev nD) (c1_i32_932 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1041 : BitVec 32 := Scalar.addi v3 c1_i32_932
  let c4_i32_933 : BitVec 32 := 4#32
  let v1042 : BitVec 32 := Scalar.remsi v1041 c4_i32_933
  let v1043 : BitVec 32 := Scalar.addi v4 v1042
  let c4_i32_934 : BitVec 32 := 4#32
  let v1044 : BitVec 32 := Scalar.addi v1043 c4_i32_934
  let c8_i32_935 : BitVec 32 := 8#32
  let v1045 : BitVec 32 := Scalar.remsi v1044 c8_i32_935
  let c384_i32_946 : BitVec 32 := 384#32
  let c0_i32_947 : BitVec 32 := 0#32
  ![v1045.toNat, 384, 0]
def k0_off103 (d0 : Dev nD) (c1_i32_960 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1074 : BitVec 32 := Scalar.subi v3 c1_i32_960
  let c4_i32_961 : BitVec 32 := 4#32
  let v1075 : BitVec 32 := Scalar.addi v1074 c4_i32_961
  let c4_i32_962 : BitVec 32 := 4#32
  let v1076 : BitVec 32 := Scalar.remsi v1075 c4_i32_962
  let v1077 : BitVec 32 := Scalar.addi v4 v1076
  let c4_i32_963 : BitVec 32 := 4#32
  let v1078 : BitVec 32 := Scalar.addi v1077 c4_i32_963
  let c8_i32_964 : BitVec 32 := 8#32
  let v1079 : BitVec 32 := Scalar.remsi v1078 c8_i32_964
  let c192_i32_973 : BitVec 32 := 192#32
  let c0_i32_974 : BitVec 32 := 0#32
  ![v1079.toNat, 192, 0]
def k0_dev34 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_971 : BitVec 32 := 1#32
  let v1080 : BitVec 32 := Scalar.muli v7 c1_i32_971
  let v1081 : BitVec 32 := Scalar.addi c0_i32_972 v1080
  v1081.toNat
def k0_off104 (d0 : Dev nD) (c1_i32_989 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1098 : BitVec 32 := Scalar.addi v3 c1_i32_989
  let c4_i32_990 : BitVec 32 := 4#32
  let v1099 : BitVec 32 := Scalar.remsi v1098 c4_i32_990
  let v1100 : BitVec 32 := Scalar.addi v4 v1099
  let c4_i32_991 : BitVec 32 := 4#32
  let v1101 : BitVec 32 := Scalar.addi v1100 c4_i32_991
  let c8_i32_992 : BitVec 32 := 8#32
  let v1102 : BitVec 32 := Scalar.remsi v1101 c8_i32_992
  let c448_i32_1001 : BitVec 32 := 448#32
  let c0_i32_1002 : BitVec 32 := 0#32
  ![v1102.toNat, 448, 0]
def k0_dev35 (d0 : Dev nD) : Nat :=
  let c0_i32_1000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_999 : BitVec 32 := 1#32
  let v1103 : BitVec 32 := Scalar.muli v10 c1_i32_999
  let v1104 : BitVec 32 := Scalar.addi c0_i32_1000 v1103
  v1104.toNat
def k0_off105 (d0 : Dev nD) (c1_i32_1005 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1113 : BitVec 32 := Scalar.subi v3 c1_i32_1005
  let c4_i32_1006 : BitVec 32 := 4#32
  let v1114 : BitVec 32 := Scalar.addi v1113 c4_i32_1006
  let c4_i32_1007 : BitVec 32 := 4#32
  let v1115 : BitVec 32 := Scalar.remsi v1114 c4_i32_1007
  let v1116 : BitVec 32 := Scalar.addi v4 v1115
  let c4_i32_1008 : BitVec 32 := 4#32
  let v1117 : BitVec 32 := Scalar.addi v1116 c4_i32_1008
  let c8_i32_1009 : BitVec 32 := 8#32
  let v1118 : BitVec 32 := Scalar.remsi v1117 c8_i32_1009
  let v1119 : Index := Scalar.indexCast v1118
  let c192_1010 : Index := 192#32
  let c0_1011 : Index := 0#32
  ![v1119.toNat, 192, 0]
def k0_off106 (d0 : Dev nD) (c1_i32_1005 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1113 : BitVec 32 := Scalar.subi v3 c1_i32_1005
  let c4_i32_1006 : BitVec 32 := 4#32
  let v1114 : BitVec 32 := Scalar.addi v1113 c4_i32_1006
  let c4_i32_1007 : BitVec 32 := 4#32
  let v1115 : BitVec 32 := Scalar.remsi v1114 c4_i32_1007
  let v1116 : BitVec 32 := Scalar.addi v4 v1115
  let c4_i32_1008 : BitVec 32 := 4#32
  let v1117 : BitVec 32 := Scalar.addi v1116 c4_i32_1008
  let c8_i32_1009 : BitVec 32 := 8#32
  let v1118 : BitVec 32 := Scalar.remsi v1117 c8_i32_1009
  let v1128 : Index := Scalar.indexCast v1118
  let c192_1015 : Index := 192#32
  let c0_1016 : Index := 0#32
  ![v1128.toNat, 192, 0]
def k0_off107 (d0 : Dev nD) (c1_i32_1005 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1113 : BitVec 32 := Scalar.subi v3 c1_i32_1005
  let c4_i32_1006 : BitVec 32 := 4#32
  let v1114 : BitVec 32 := Scalar.addi v1113 c4_i32_1006
  let c4_i32_1007 : BitVec 32 := 4#32
  let v1115 : BitVec 32 := Scalar.remsi v1114 c4_i32_1007
  let v1116 : BitVec 32 := Scalar.addi v4 v1115
  let c4_i32_1008 : BitVec 32 := 4#32
  let v1117 : BitVec 32 := Scalar.addi v1116 c4_i32_1008
  let c8_i32_1009 : BitVec 32 := 8#32
  let v1118 : BitVec 32 := Scalar.remsi v1117 c8_i32_1009
  let c192_i32_1020 : BitVec 32 := 192#32
  let c0_i32_1021 : BitVec 32 := 0#32
  ![v1118.toNat, 192, 0]
def k0_off108 (d0 : Dev nD) (c1_i32_1022 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1139 : BitVec 32 := Scalar.addi v3 c1_i32_1022
  let c4_i32_1023 : BitVec 32 := 4#32
  let v1140 : BitVec 32 := Scalar.remsi v1139 c4_i32_1023
  let v1141 : BitVec 32 := Scalar.addi v4 v1140
  let c4_i32_1024 : BitVec 32 := 4#32
  let v1142 : BitVec 32 := Scalar.addi v1141 c4_i32_1024
  let c8_i32_1025 : BitVec 32 := 8#32
  let v1143 : BitVec 32 := Scalar.remsi v1142 c8_i32_1025
  let v1144 : Index := Scalar.indexCast v1143
  let c448_1026 : Index := 448#32
  let c0_1027 : Index := 0#32
  ![v1144.toNat, 448, 0]
def k0_off109 (d0 : Dev nD) (c1_i32_1022 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1139 : BitVec 32 := Scalar.addi v3 c1_i32_1022
  let c4_i32_1023 : BitVec 32 := 4#32
  let v1140 : BitVec 32 := Scalar.remsi v1139 c4_i32_1023
  let v1141 : BitVec 32 := Scalar.addi v4 v1140
  let c4_i32_1024 : BitVec 32 := 4#32
  let v1142 : BitVec 32 := Scalar.addi v1141 c4_i32_1024
  let c8_i32_1025 : BitVec 32 := 8#32
  let v1143 : BitVec 32 := Scalar.remsi v1142 c8_i32_1025
  let v1153 : Index := Scalar.indexCast v1143
  let c448_1031 : Index := 448#32
  let c0_1032 : Index := 0#32
  ![v1153.toNat, 448, 0]
def k0_off110 (d0 : Dev nD) (c1_i32_1022 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v1139 : BitVec 32 := Scalar.addi v3 c1_i32_1022
  let c4_i32_1023 : BitVec 32 := 4#32
  let v1140 : BitVec 32 := Scalar.remsi v1139 c4_i32_1023
  let v1141 : BitVec 32 := Scalar.addi v4 v1140
  let c4_i32_1024 : BitVec 32 := 4#32
  let v1142 : BitVec 32 := Scalar.addi v1141 c4_i32_1024
  let c8_i32_1025 : BitVec 32 := 8#32
  let v1143 : BitVec 32 := Scalar.remsi v1142 c8_i32_1025
  let c448_i32_1036 : BitVec 32 := 448#32
  let c0_i32_1037 : BitVec 32 := 0#32
  ![v1143.toNat, 448, 0]
def k0_dev36 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1059 : BitVec 32 := 1#32
  let v1176 : BitVec 32 := Scalar.muli v7 c1_i32_1059
  let v1177 : BitVec 32 := Scalar.addi c0_i32_1060 v1176
  v1177.toNat
def k0_dev37 (d0 : Dev nD) : Nat :=
  let c0_i32_1086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1085 : BitVec 32 := 1#32
  let v1197 : BitVec 32 := Scalar.muli v10 c1_i32_1085
  let v1198 : BitVec 32 := Scalar.addi c0_i32_1086 v1197
  v1198.toNat
def k0_dev38 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1141 : BitVec 32 := 1#32
  let v1266 : BitVec 32 := Scalar.muli v7 c1_i32_1141
  let v1267 : BitVec 32 := Scalar.addi c0_i32_1142 v1266
  v1267.toNat
def k0_dev39 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1167 : BitVec 32 := 1#32
  let v1287 : BitVec 32 := Scalar.muli v10 c1_i32_1167
  let v1288 : BitVec 32 := Scalar.addi c0_i32_1168 v1287
  v1288.toNat
def k0_dev40 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1225 : BitVec 32 := 1#32
  let v1358 : BitVec 32 := Scalar.muli v7 c1_i32_1225
  let v1359 : BitVec 32 := Scalar.addi c0_i32_1226 v1358
  v1359.toNat
def k0_dev41 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1253 : BitVec 32 := 1#32
  let v1381 : BitVec 32 := Scalar.muli v10 c1_i32_1253
  let v1382 : BitVec 32 := Scalar.addi c0_i32_1254 v1381
  v1382.toNat
def k0_dev42 (d0 : Dev nD) : Nat :=
  let c0_i32_1316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1315 : BitVec 32 := 1#32
  let v1456 : BitVec 32 := Scalar.muli v7 c1_i32_1315
  let v1457 : BitVec 32 := Scalar.addi c0_i32_1316 v1456
  v1457.toNat
def k0_dev43 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1343 : BitVec 32 := 1#32
  let v1479 : BitVec 32 := Scalar.muli v10 c1_i32_1343
  let v1480 : BitVec 32 := Scalar.addi c0_i32_1344 v1479
  v1480.toNat
def k0_dev44 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1405 : BitVec 32 := 1#32
  let v1554 : BitVec 32 := Scalar.muli v7 c1_i32_1405
  let v1555 : BitVec 32 := Scalar.addi c0_i32_1406 v1554
  v1555.toNat
def k0_dev45 (d0 : Dev nD) : Nat :=
  let c0_i32_1434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1433 : BitVec 32 := 1#32
  let v1577 : BitVec 32 := Scalar.muli v10 c1_i32_1433
  let v1578 : BitVec 32 := Scalar.addi c0_i32_1434 v1577
  v1578.toNat
def k0_dev46 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_1495 : BitVec 32 := 1#32
  let v1652 : BitVec 32 := Scalar.muli v7 c1_i32_1495
  let v1653 : BitVec 32 := Scalar.addi c0_i32_1496 v1652
  v1653.toNat
def k0_dev47 (d0 : Dev nD) : Nat :=
  let c0_i32_1524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1523 : BitVec 32 := 1#32
  let v1675 : BitVec 32 := Scalar.muli v10 c1_i32_1523
  let v1676 : BitVec 32 := Scalar.addi c0_i32_1524 v1675
  v1676.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Geo.lean ====
/-
# The pieces of the exchange, as tables

Every device cuts each of the eight row chunks of `x` into pieces and moves the pieces around two directed rings of
four devices, one per direction, joined by one exchange between the two planes of the mesh. This module lists the 48
pieces in the order a device multiplies them, the 44 transfers ("wires") in the order it issues them, and the facts
about them that are arithmetic on eight devices: which piece a wire carries, which piece it becomes at the device it
is sent to, and that the pieces cut the buffer without overlap.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

namespace Cert.GatherProof

open Cert.KernelIdeal Cert.KernelIdeal.Gen
open Idealize.ShloMosaic Idealize.ShloMosaic.TcCoe

/-! ## Neighbours -/

/-- The right neighbour in the device's plane of four, the left one, and the device in the other plane. -/
def rgt (c : Dev nD) : Dev nD := ⟨c.val - c.val % 4 + (c.val % 4 + 1) % 4, by have := c.isLt; show _ < 8; change c.val < 8 at this; omega⟩
def lft (c : Dev nD) : Dev nD := ⟨c.val - c.val % 4 + (c.val % 4 + 3) % 4, by have := c.isLt; show _ < 8; change c.val < 8 at this; omega⟩
def opp (c : Dev nD) : Dev nD := ⟨(c.val + 4) % 8, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide

/-- The three directions a device sends in, as permutations of the mesh: 0 to the right, 1 to the left, 2 across. -/
def dirE : Fin 3 → (Dev nD ≃ Dev nD)
  | 0 => ⟨rgt, lft, lft_rgt, rgt_lft⟩
  | 1 => ⟨lft, rgt, rgt_lft, lft_rgt⟩
  | 2 => ⟨opp, opp, opp_opp, opp_opp⟩

/-! ## Pieces, in the order a device multiplies them -/

/-- Piece `p`'s code `24 d + 6 t + k`: ring direction `d`, how many ring steps `t` it has made, its place `k` among the
    six pieces of a direction (0, 1: 128 rows of a chunk of the device's own plane; 2 … 5: 64 rows of the other plane's). -/
def pcode (p : Fin 48) : ℕ :=
  [0, 1, 24, 25, 2, 3, 26, 27, 4, 5, 6, 30, 7, 31, 28, 29, 8, 32, 9, 33, 10, 34, 11, 35, 12, 36, 13, 37, 14, 38, 15, 39, 16, 40, 17, 41, 18, 42, 19, 43, 20,
    44, 21, 45, 22, 46, 23, 47].getD p.val 0
def pd (p : Fin 48) : ℕ := pcode p / 24
def pt (p : Fin 48) : ℕ := pcode p % 24 / 6
def pk (p : Fin 48) : ℕ := pcode p % 6

/-- Its first row within its chunk, and how many rows it has. -/
def poff (p : Fin 48) : ℕ := if pk p < 2 then pd p * 256 + pk p * 128 else pd p * 256 + (pk p - 2) * 64
def pnr (p : Fin 48) : ℕ := if pk p < 2 then 128 else 64
/-- The chunk (the device whose rows they are) of piece `p` on device `c`. -/
def pch (c : Dev nD) (p : Fin 48) : ℕ :=
  let j := c.val % 4
  let m := if pd p = 0 then (j + 4 - pt p) % 4 else (j + pt p) % 4
  if pk p < 2 then c.val - j + m else (c.val - j + m + 4) % 8
/-- When piece `p` arrives: the pieces of the device's own rows in the order they are cast, the others as multiplied. -/
def arank (p : Fin 48) : ℕ := if p.val = 1 then 2 else if p.val = 2 then 1 else p.val

/-! ## Wires, in the order a device issues them -/

/-- The piece wire `x` carries (the device's own four pieces go out three ways: along the ring whole, across in halves). -/
def wpc (x : Fin 44) : Fin 48 :=
  if x.val < 12 then (if x.val / 3 = 1 then 2 else if x.val / 3 = 2 then 1 else ⟨x.val / 3, by have := x.isLt; omega⟩)
  else ⟨x.val - 8, by have := x.isLt; omega⟩
def wz (x : Fin 44) : ℕ := if x.val < 12 then x.val % 3 else 0
def woff (x : Fin 44) : ℕ := poff (wpc x) + 64 * (wz x - 1)
def wnr (x : Fin 44) : ℕ := if wz x = 0 then pnr (wpc x) else 64
def wch (c : Dev nD) (x : Fin 44) : ℕ := pch c (wpc x)
def wdir (x : Fin 44) : Fin 3 := if wz x = 0 then (if pd (wpc x) = 0 then 0 else 1) else 2
/-- The device wire `x` of device `c` goes to, and the device whose wire `x` comes to `c`. -/
def wdst (c : Dev nD) (x : Fin 44) : Dev nD := dirE (wdir x) c
def wsrc (c : Dev nD) (x : Fin 44) : Dev nD := (dirE (wdir x)).symm c
/-- The piece wire `x` becomes where it lands, and the wire that brings a piece. -/
def wsuc (x : Fin 44) : Fin 48 :=
  ([10, 4, 5, 11, 6, 7, 12, 8, 9, 13, 14, 15, 16, 18, 17, 19, 20, 22, 24, 25, 26, 27, 21, 23, 28, 29, 30, 31, 32, 33, 34, 35, 36, 37, 38, 39, 40, 41, 42, 43,
    44, 45, 46, 47] : List (Fin 48)).getD x.val 0
def wprd (p : Fin 48) : Fin 44 :=
  ([0, 0, 0, 0, 1, 2, 4, 5, 7, 8, 0, 3, 6, 9, 10, 11, 12, 14, 13, 15, 16, 22, 17, 23, 18, 19, 20, 21, 24, 25, 26, 27, 28, 29, 30, 31, 32, 33, 34, 35, 36, 37,
    38, 39, 40, 41, 42, 43] : List (Fin 44)).getD p.val 0
/-- The order in which the device waits, at its end, for its wires to have left. -/
def wfin (x : Fin 44) : ℕ := if x.val < 12 then (if x.val % 3 = 0 then 8 + x.val / 3 else 2 * (x.val / 3) + x.val % 3 - 1) else x.val

/-- The semaphore a wire signals at the sender, and at the receiver, and a copy's; as numbers in the kernel's table. -/
def sdN (x : Fin 44) : ℕ := if wz x = 0 then 23 + 18 * pd (wpc x) + 6 * pt (wpc x) + pk (wpc x) else 7 + 2 * (wpc x).val + wz x - 1
def rvN (x : Fin 44) : ℕ := if wz x = 0 then 59 + 18 * pd (wpc x) + 6 * pt (wpc x) + pk (wpc x) else 15 + 2 * (wpc x).val + wz x - 1

theorem sdN_bound : ∀ x, (7 ≤ sdN x ∧ sdN x < 15) ∨ (23 ≤ sdN x ∧ sdN x < 59) := by decide +kernel
theorem rvN_bound : ∀ x, (15 ≤ rvN x ∧ rvN x < 23) ∨ (59 ≤ rvN x ∧ rvN x < 95) := by decide +kernel
theorem sdN_inj : ∀ x y, sdN x = sdN y → x = y := by decide +kernel
theorem rvN_inj : ∀ x y, rvN x = rvN y → x = y := by decide +kernel
theorem wfin_inj : ∀ x y, wfin x = wfin y → x = y := by decide +kernel
theorem wfin_lt : ∀ x, wfin x < 44 := by decide +kernel
theorem arank_inj : ∀ p q, arank p = arank q → p = q := by decide +kernel
theorem arank_lt : ∀ p, arank p < 48 := by decide +kernel

theorem wsuc_wprd : ∀ p : Fin 48, 4 ≤ p.val → wsuc (wprd p) = p := by decide +kernel
theorem wprd_wsuc : ∀ x, wprd (wsuc x) = x := by decide +kernel
theorem wsuc_ge : ∀ x, 4 ≤ (wsuc x).val := by decide +kernel
theorem wpc_ring : ∀ p : Fin 36, 4 ≤ p.val → ∀ h : p.val + 8 < 44, wpc ⟨p.val + 8, h⟩ = ⟨p.val, by omega⟩ := by decide +kernel

/-- A wire's rows are where it lands the rows of the piece it becomes. -/
theorem land_ch : ∀ c x, pch (wdst c x) (wsuc x) = wch c x := by decide +kernel
theorem land_off : ∀ x, poff (wsuc x) = woff x := by decide +kernel
theorem land_nr : ∀ x, pnr (wsuc x) = wnr x := by decide +kernel
theorem wnr_cases : ∀ x, wnr x = 128 ∨ wnr x = 64 := by decide +kernel

theorem pch_lt : ∀ c p, pch c p < 8 := by decide +kernel
theorem poff_bound : ∀ p, poff p + pnr p ≤ 512 := by decide +kernel
theorem wch_lt (c : Dev nD) (x : Fin 44) : wch c x < 8 := pch_lt c _
theorem woff_bound : ∀ x, woff x + wnr x ≤ 512 := by decide +kernel
/-- A piece of 128 rows starts at a multiple of 128 and lies in the device's own plane; one of 64 at a multiple of 64
    and in the other. -/
theorem piece_kind : ∀ c p, (pnr p = 128 ∧ poff p % 128 = 0 ∧ pch c p / 4 = c.val / 4) ∨ (pnr p = 64 ∧ poff p % 64 = 0 ∧ pch c p / 4 ≠ c.val / 4) := by
  decide +kernel

/-- No two pieces of a device share rows; -/
theorem pieces_apart : ∀ c p q, p ≠ q → pch c p ≠ pch c q ∨ poff p + pnr p ≤ poff q ∨ poff q + pnr q ≤ poff p := by decide +kernel
/-- and every row of every chunk is in one. -/
theorem pieces_cover : ∀ (c : Dev nD) (k b : Fin 8), ∃ p, pch c p = k.val ∧ poff p ≤ 64 * b.val ∧ 64 * b.val + 64 ≤ poff p + pnr p := by decide +kernel

/-- The wires carrying piece `p` out: none after the last ring step, one otherwise, three for a piece of the device's own. -/
theorem wires_of : ∀ p : Fin 48, (Finset.univ.filter fun x : Fin 44 => wpc x = p)
    = if h : p.val < 4 then {⟨3 * arank p, by unfold arank; split_ifs <;> omega⟩, ⟨3 * arank p + 1, by unfold arank; split_ifs <;> omega⟩, ⟨3 * arank p + 2, by unfold arank; split_ifs <;> omega⟩}
      else if h' : p.val < 36 then {⟨p.val + 8, by omega⟩} else ∅ := by decide +kernel

/-! ## Sets of rows -/

/-- Rows `o … o + r - 1` of chunk `k` of a buffer of eight chunks of 512 rows. -/
def box (n : ℕ) (k o r : ℕ) : Finset (⟨3, ![8, 512, n]⟩ : Shape).Idx :=
  Finset.univ.filter fun i => (i 0).val = k ∧ o ≤ (i 1).val ∧ (i 1).val < o + r
/-- Rows `o … o + r - 1` of a matrix. -/
def rows (N n : ℕ) (o r : ℕ) : Finset (⟨2, ![N, n]⟩ : Shape).Idx :=
  Finset.univ.filter fun i => o ≤ (i 0).val ∧ (i 0).val < o + r

theorem mem_box {n k o r : ℕ} {i : (⟨3, ![8, 512, n]⟩ : Shape).Idx} : i ∈ box n k o r ↔ (i 0).val = k ∧ o ≤ (i 1).val ∧ (i 1).val < o + r := by
  unfold box; rw [Finset.mem_filter]; exact and_iff_right (Finset.mem_univ _)
theorem mem_rows {N n o r : ℕ} {i : (⟨2, ![N, n]⟩ : Shape).Idx} : i ∈ rows N n o r ↔ o ≤ (i 0).val ∧ (i 0).val < o + r := by
  unfold rows; rw [Finset.mem_filter]; exact and_iff_right (Finset.mem_univ _)

theorem box_eq {n k o r : ℕ} {off : Fin 3 → ℕ} (h : off = ![k, o, 0])
    (inb : ∀ a, off a + (⟨3, ![1, r, n]⟩ : Shape).size a ≤ (⟨3, ![8, 512, n]⟩ : Shape).size a) :
    (Rect.unit (s := ⟨3, ![8, 512, n]⟩) off (⟨3, ![1, r, n]⟩ : Shape).size inb).set = box n k o r := by
  subst h
  ext i
  rw [Rect.mem_set_unit, mem_box]
  constructor
  · intro h
    have h0 := h 0; have h1 := h 1
    simp only [Matrix.cons_val_zero, Matrix.cons_val_one, Shape.size] at h0 h1
    omega
  · rintro ⟨h0, h1, h2⟩ a
    match a with
    | ⟨0, _⟩ => show k ≤ (i 0).val ∧ (i 0).val < k + 1; omega
    | ⟨1, _⟩ => show o ≤ (i 1).val ∧ (i 1).val < o + r; omega
    | ⟨2, _⟩ => show 0 ≤ (i 2).val ∧ (i 2).val < 0 + n; have := (i 2).isLt; change (i 2).val < n at this; omega
theorem rows_eq {N n o r : ℕ} {off : Fin 2 → ℕ} (h : off = ![o, 0])
    (inb : ∀ a, off a + (⟨2, ![r, n]⟩ : Shape).size a ≤ (⟨2, ![N, n]⟩ : Shape).size a) :
    (Rect.unit (s := ⟨2, ![N, n]⟩) off (⟨2, ![r, n]⟩ : Shape).size inb).set = rows N n o r := by
  subst h
  ext i
  rw [Rect.mem_set_unit, mem_rows]
  constructor
  · intro h
    have h0 := h 0
    simp only [Matrix.cons_val_zero, Shape.size] at h0
    omega
  · rintro ⟨h1, h2⟩ a
    match a with
    | ⟨0, _⟩ => show o ≤ (i 0).val ∧ (i 0).val < o + r; omega
    | ⟨1, _⟩ => show 0 ≤ (i 1).val ∧ (i 1).val < 0 + n; have := (i 1).isLt; change (i 1).val < n at this; omega

theorem box_disjoint {n k o r k' o' r' : ℕ} (h : k ≠ k' ∨ o + r ≤ o' ∨ o' + r' ≤ o) : Disjoint (box n k o r) (box n k' o' r') := by
  rw [Finset.disjoint_left]; intro i hi hi'
  rw [mem_box] at hi hi'; omega
theorem rows_disjoint {N n o r o' r' : ℕ} (h : o + r ≤ o' ∨ o' + r' ≤ o) : Disjoint (rows N n o r) (rows N n o' r') := by
  rw [Finset.disjoint_left]; intro i hi hi'
  rw [mem_rows] at hi hi'; omega

/-- The pieces of device `c` cut the eight chunks. -/
theorem box_cover (n : ℕ) (c : Dev nD) : (Finset.univ.biUnion fun p : Fin 48 => box n (pch c p) (poff p) (pnr p)) = Finset.univ := by
  ext i
  simp only [Finset.mem_biUnion, Finset.mem_univ, true_and, iff_true]
  have h0 : (i 0).val < 8 := (i 0).isLt
  have h1 : (i 1).val < 512 := (i 1).isLt
  obtain ⟨p, hk, ha, hb⟩ := pieces_cover c ⟨(i 0).val, h0⟩ ⟨(i 1).val / 64, by omega⟩
  refine ⟨p, mem_box.mpr ⟨hk.symm, ?_, ?_⟩⟩ <;> simp only at ha hb <;> omega
theorem box_apart (n : ℕ) (c : Dev nD) : ∀ p ∈ (Finset.univ : Finset (Fin 48)), ∀ q ∈ (Finset.univ : Finset (Fin 48)), p ≠ q →
    Disjoint (box n (pch c p) (poff p) (pnr p)) (box n (pch c q) (poff q) (pnr q)) := fun p _ q _ h => box_disjoint (pieces_apart c p q h)
/-- Rows of the result: chunk `k`'s rows follow chunk `k - 1`'s. -/
theorem rows_cover (n : ℕ) (c : Dev nD) : (Finset.univ.biUnion fun p : Fin 48 => rows 4096 n (512 * pch c p + poff p) (pnr p)) = Finset.univ := by
  ext i
  simp only [Finset.mem_biUnion, Finset.mem_univ, true_and, iff_true]
  have h0 : (i 0).val < 4096 := (i 0).isLt
  obtain ⟨p, hk, ha, hb⟩ := pieces_cover c ⟨(i 0).val / 512, by omega⟩ ⟨(i 0).val % 512 / 64, by omega⟩
  refine ⟨p, mem_rows.mpr ⟨?_, ?_⟩⟩ <;> simp only at hk ha hb <;> omega
theorem rows_apart (n : ℕ) (c : Dev nD) : ∀ p ∈ (Finset.univ : Finset (Fin 48)), ∀ q ∈ (Finset.univ : Finset (Fin 48)), p ≠ q →
    Disjoint (rows 4096 n (512 * pch c p + poff p) (pnr p)) (rows 4096 n (512 * pch c q + poff q) (pnr q)) := fun p _ q _ h => by
  have h1 := pieces_apart c p q h
  have h2 := poff_bound p; have h3 := poff_bound q
  refine rows_disjoint ?_
  omega
/-- The device's own rows, in four blocks of 128. -/
theorem quarter_cover (n : ℕ) : (Finset.univ.biUnion fun q : Fin 4 => rows 512 n (128 * q.val) 128) = Finset.univ := by
  ext i
  simp only [Finset.mem_biUnion, Finset.mem_univ, true_and, iff_true]
  have h0 : (i 0).val < 512 := (i 0).isLt
  refine ⟨⟨(i 0).val / 128, by omega⟩, mem_rows.mpr ⟨?_, ?_⟩⟩ <;> simp only <;> omega
theorem quarter_apart (n : ℕ) : ∀ p ∈ (Finset.univ : Finset (Fin 4)), ∀ q ∈ (Finset.univ : Finset (Fin 4)), p ≠ q →
    Disjoint (rows 512 n (128 * p.val) 128) (rows 512 n (128 * q.val) 128) := fun p _ q _ h => by
  have : p.val ≠ q.val := fun h' => h (Fin.ext h')
  exact rows_disjoint (by omega)

end Cert.GatherProof

end
-- ==== Proof.Sched.lean ====
/-
# The exchange's cells, what each hands over, and what each device owes

Per device: the barrier cell (three units, one from each device it sends to; each hands over the rows of its own buffer
that this device will write), four loads of the device's rows, one load of its columns of `w`, and per wire a cell at
the sender (the rows lent come back) and one at the receiver (the rows arrive), and one cell per copy of a finished
piece out. Every cell has one round. A payload says what the rows hold: the cast rows of the device they come from.
-/
module

public import proofs.«01_k».proof.Proof.Geo
public import Idealize.ShloMosaic.Lib.ValueIdxCore

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A cell of a device: its barrier, its load of `w`, its loads of `x`, a wire's sending and receiving end, a copy out. -/
abbrev KI : Type := Unit ⊕ Unit ⊕ Fin 4 ⊕ Fin 44 ⊕ Fin 44 ⊕ Fin 48

abbrev kBar : KI := .inl ()
abbrev kW : KI := .inr (.inl ())
abbrev kX (q : Fin 4) : KI := .inr (.inr (.inl q))
abbrev kS (x : Fin 44) : KI := .inr (.inr (.inr (.inl x)))
abbrev kR (x : Fin 44) : KI := .inr (.inr (.inr (.inr (.inl x))))
abbrev kC (p : Fin 48) : KI := .inr (.inr (.inr (.inr (.inr p))))

abbrev barS : Sem sig := (SemArray.scalar (sig.barrier 0 rfl) : Sems sig S_).sem

/-- The number of a transfer semaphore in the kernel's table. -/
def kN : KI → ℕ
  | .inl _ => 0
  | .inr (.inl _) => 6
  | .inr (.inr (.inl q)) => 2 + q.val
  | .inr (.inr (.inr (.inl x))) => sdN x
  | .inr (.inr (.inr (.inr (.inl x)))) => rvN x
  | .inr (.inr (.inr (.inr (.inr p)))) => 95 + p.val

theorem kN_lt (k : KI) : kN k < 143 := by
  rcases k with _ | _ | q | x | x | p
  · simp only [kN]; omega
  · simp only [kN]; omega
  · have := q.isLt; simp only [kN]; omega
  · have := sdN_bound x; simp only [kN]; omega
  · have := rvN_bound x; simp only [kN]; omega
  · have := p.isLt; simp only [kN]; omega

theorem kN_ge (k : KI) (h : k ≠ kBar) : 2 ≤ kN k := by
  rcases k with u | _ | q | x | x | p
  · exact absurd rfl h
  · simp only [kN]; omega
  · simp only [kN]; omega
  · have := sdN_bound x; simp only [kN]; omega
  · have := rvN_bound x; simp only [kN]; omega
  · simp only [kN]; omega

theorem kN_inj (k k' : KI) (h : kN k = kN k') : k = k' := by
  rcases k with u | u | q | x | x | p <;> rcases k' with u' | u' | q' | x' | x' | p' <;> simp only [kN] at h
  all_goals first
    | rfl
    | exact congrArg kX (Fin.ext (by omega))
    | exact congrArg kC (Fin.ext (by omega))
    | exact congrArg kS (sdN_inj _ _ h)
    | exact congrArg kR (rvN_inj _ _ h)
    | (exfalso; try have := sdN_bound x
       try have := rvN_bound x
       try have := sdN_bound x'
       try have := rvN_bound x'
       omega)

def csem (k : KI) : SemLoc sig := match k with
  | .inl _ => .reg barS
  | .inr k => .dma ⟨kN (.inr k), kN_lt _⟩

abbrev kcell (ck : Dev nD × KI) : GSem nD τ sig := ((ck.1 : Thread nD τ), csem ck.2)

theorem csem_inj : Function.Injective csem := by
  intro k k' h
  rcases k with ⟨⟩ | k <;> rcases k' with ⟨⟩ | k'
  · rfl
  · exact absurd h (fun h => by cases h)
  · exact absurd h (fun h => by cases h)
  · simp only [csem, SemLoc.dma.injEq, Fin.mk.injEq] at h
    exact kN_inj _ _ h

theorem kcell_injective : Function.Injective (kcell : Dev nD × KI → GSem nD τ sig) := by
  rintro ⟨c, k⟩ ⟨c', k'⟩ h
  have h1 : c = c' := congrArg (fun g : GSem nD τ sig => g.1.1) h
  have h2 : csem k = csem k' := congrArg Prod.snd h
  rw [h1, csem_inj h2]

open Classical in
/-- Which cell of which device a semaphore is, if one of the exchange's. -/
def kOf (g : GSem nD τ sig) : Option (Dev nD × KI) := if h : ∃ ck, kcell ck = g then some h.choose else none

theorem kOf_kcell (ck : Dev nD × KI) : kOf (kcell ck) = some ck := by
  have h : ∃ ck', kcell ck' = kcell ck := ⟨ck, rfl⟩
  unfold kOf; rw [dif_pos h]
  exact congrArg some (kcell_injective h.choose_spec)

theorem kOf_some {g : GSem nD τ sig} {ck : Dev nD × KI} (h : kOf g = some ck) : kcell ck = g := by
  unfold kOf at h
  split_ifs at h with h'
  have := h'.choose_spec
  rwa [Option.some.inj h] at this

/-! ## Amounts -/

/-- What a transfer of `r` rows of the gathered buffer, of the device's rows of `x`, of `w`, of `r` rows of the result credits. -/
def crX (r : ℕ) : ℕ := (cc0_scratch0 : Ref sig .tc).dmaCredit ⟨2, ![r, 4096]⟩ .fp8e4m3
def crF : ℕ := (cc0_scratch1 : Ref sig .tc).dmaCredit ⟨2, ![128, 4096]⟩ .f32
def crW : ℕ := (cc0_scratch2 : Ref sig .tc).dmaCredit ⟨2, ![4096, 256]⟩ .f32
def crO (r : ℕ) : ℕ := (main_v1 : Ref sig .tc).dmaCredit ⟨2, ![r, 256]⟩ .f32

def amt : KI → ℕ
  | .inl _ => 1
  | .inr (.inl _) => crW
  | .inr (.inr (.inl _)) => crF
  | .inr (.inr (.inr (.inl x))) => crX (wnr x)
  | .inr (.inr (.inr (.inr (.inl x)))) => crX (wnr x)
  | .inr (.inr (.inr (.inr (.inr p)))) => crO (pnr p)

theorem crX_pos (r : ℕ) (h : r = 128 ∨ r = 64) : 0 < crX r :=
  sig.dmaCredit_pos _ _ _ _ _ (by rcases h with rfl | rfl <;> decide)
theorem crO_pos (r : ℕ) (h : r = 128 ∨ r = 64) : 0 < crO r :=
  sig.dmaCredit_pos _ _ _ _ _ (by rcases h with rfl | rfl <;> decide)
theorem pnr_cases : ∀ p, pnr p = 128 ∨ pnr p = 64 := by decide +kernel
theorem amt_pos (k : KI) : 0 < amt k := by
  rcases k with _ | _ | q | x | x | p
  · exact Nat.one_pos
  · exact sig.dmaCredit_pos _ _ _ _ _ (by decide)
  · exact sig.dmaCredit_pos _ _ _ _ _ (by decide)
  · exact crX_pos _ (wnr_cases x)
  · exact crX_pos _ (wnr_cases x)
  · exact crO_pos _ (pnr_cases p)

/-! ## Contents -/

/-- Device `c`'s rows of `x`, its columns of `w`, its copies of the two scales. -/
def xb (c : Dev nD) : S512x4096.Idx → Elt F .f32 := m ((c : Thread nD τ).loc main_arg0)
def wb (c : Dev nD) : S4096x256.Idx → Elt F .f32 := m ((c : Thread nD τ).loc main_arg1)
def sxb (c : Dev nD) : S1.Idx → Elt F .f32 := m ((c : Thread nD τ).loc main_arg2)
def swb (c : Dev nD) : S1.Idx → Elt F .f32 := m ((c : Thread nD τ).loc main_arg3)

/-- The gathered buffer: chunk `i` is device `i`'s rows, cast. -/
def XS : S8x512x4096.Idx → Elt F .fp8e4m3 := fun i =>
  truncf (F := F) (s := S512x4096) (φ := .f32) .fp8e4m3 (xb m (i 0)) bitsLt_fp8e4m3_f32 (ix2 (i 1) (i 2))
/-- The device's columns of `w`, cast; and the product of the scales. -/
def W8 (c : Dev nD) : S4096x256.Idx → Elt F .fp8e5m2 := k0_pay6 (wb m c)
def scl (c : Dev nD) : F .f32 := k0_pay1 (sxb m c (ix1 (0 : Fin 1))) (swb m c (ix1 (0 : Fin 1)))
/-- Rows `o … o + r - 1` of chunk `k` of the gathered buffer. -/
def rdX (r k o : ℕ) : Vec F ⟨3, ![1, r, 4096]⟩ .fp8e4m3 := fun i =>
  XS m (ix3 ⟨k % 8, Nat.mod_lt _ (by decide)⟩ ⟨(o + (i 1).val) % 512, Nat.mod_lt _ (by decide)⟩ (i 2))
/-- The result, chunk by chunk: as the device multiplies it, 128 rows at a time in its own plane and 64 in the other. -/
def OB (c : Dev nD) : S8x512x256.Idx → Elt F .f32 := fun i =>
  if (i 0).val / 4 = c.val / 4 then
    k0_pay7 (scl m c) (rdX m 128 (i 0).val ((i 1).val / 128 * 128)) (W8 m c) (ix3 (0 : Fin 1) ⟨(i 1).val % 128, Nat.mod_lt _ (by decide)⟩ (i 2))
  else
    k0_pay15 (scl m c) (rdX m 64 (i 0).val ((i 1).val / 64 * 64)) (W8 m c) (ix3 (0 : Fin 1) ⟨(i 1).val % 64, Nat.mod_lt _ (by decide)⟩ (i 2))
/-- The result array: the chunks one below the other. -/
def OUT (c : Dev nD) : S4096x256.Idx → Elt F .f32 := fun i =>
  OB m c (ix3 ⟨(i 0).val / 512, by have h : (i 0).val < 4096 := (i 0).isLt; omega⟩ ⟨(i 0).val % 512, Nat.mod_lt _ (by decide)⟩ (i 1))

/-! ## Resources -/

abbrev lXS (c : Dev nD) : Loc nD τ sig := (c : Thread nD τ).loc cc0_scratch0
abbrev lXF (c : Dev nD) : Loc nD τ sig := (c : Thread nD τ).loc cc0_scratch1
abbrev lWF (c : Dev nD) : Loc nD τ sig := (c : Thread nD τ).loc cc0_scratch2
abbrev lW8 (c : Dev nD) : Loc nD τ sig := (c : Thread nD τ).loc cc0_scratch3
abbrev lOB (c : Dev nD) : Loc nD τ sig := (c : Thread nD τ).loc cc0_scratch4
abbrev lX (c : Dev nD) : Loc nD τ sig := (c : Thread nD τ).loc main_arg0
abbrev lW (c : Dev nD) : Loc nD τ sig := (c : Thread nD τ).loc main_arg1
abbrev lO (c : Dev nD) : Loc nD τ sig := (c : Thread nD τ).loc main_v1

/-- Piece `p` of device `c`'s gathered buffer, at share `q` with its contents, and whole at some contents. -/
def xsP (c : Dev nD) (p : Fin 48) (q : PosShare TreeShare) : sProp 𝕄 := lXS c ↦[box 4096 (pch c p) (poff p) (pnr p)]{q} XS m
def xsU (c : Dev nD) (p : Fin 48) : sProp 𝕄 := iprop(∃ f : Buf (Elt F) (lXS c), lXS c ↦[box 4096 (pch c p) (poff p) (pnr p)]{fullShare} f)
/-- The share of its piece a wire borrows, and the share that stays. -/
def wsh (x : Fin 44) : PosShare TreeShare :=
  if x.val < 12 then (if wz x = 0 then fullShare.left.left else fullShare.left.right) else fullShare.left
def ksh (p : Fin 48) : PosShare TreeShare := if p.val < 36 then fullShare.right else fullShare
/-- The rows wire `x` borrows. -/
def srcP (c : Dev nD) (x : Fin 44) : sProp 𝕄 := lXS c ↦[box 4096 (wch c x) (woff x) (wnr x)]{wsh x} XS m
/-- The rows wire `x` of `c` will write, at the device it goes to. -/
def dstU (c : Dev nD) (x : Fin 44) : sProp 𝕄 :=
  iprop(∃ f : Buf (Elt F) (lXS (wdst c x)), lXS (wdst c x) ↦[box 4096 (wch c x) (woff x) (wnr x)]{fullShare} f)
/-- A quarter of the device's rows in its array and in its staging buffer. -/
def xhP (c : Dev nD) (q : Fin 4) : sProp 𝕄 := lX c ↦[rows 512 4096 (128 * q.val) 128]{fullShare} xb m c
def xfP (c : Dev nD) (q : Fin 4) : sProp 𝕄 := lXF c ↦[rows 512 4096 (128 * q.val) 128]{fullShare} xb m c
def xfU (c : Dev nD) (q : Fin 4) : sProp 𝕄 := iprop(∃ f : Buf (Elt F) (lXF c), lXF c ↦[rows 512 4096 (128 * q.val) 128]{fullShare} f)
def whP (c : Dev nD) : sProp 𝕄 := lW c ↦{fullShare} wb m c
def wfP (c : Dev nD) : sProp 𝕄 := lWF c ↦{fullShare} wb m c
def wfU (c : Dev nD) : sProp 𝕄 := iprop(∃ f : Buf (Elt F) (lWF c), lWF c ↦{fullShare} f)
/-- A piece of the result, in the buffer it is computed in and in the result array. -/
def obP (c : Dev nD) (p : Fin 48) : sProp 𝕄 := lOB c ↦[box 256 (pch c p) (poff p) (pnr p)]{fullShare} OB m c
def obU (c : Dev nD) (p : Fin 48) : sProp 𝕄 := iprop(∃ f : Buf (Elt F) (lOB c), lOB c ↦[box 256 (pch c p) (poff p) (pnr p)]{fullShare} f)
def ouP (c : Dev nD) (p : Fin 48) : sProp 𝕄 := lO c ↦[rows 4096 256 (512 * pch c p + poff p) (pnr p)]{fullShare} OUT m c
def ouU (c : Dev nD) (p : Fin 48) : sProp 𝕄 := iprop(∃ f : Buf (Elt F) (lO c), lO c ↦[rows 4096 256 (512 * pch c p + poff p) (pnr p)]{fullShare} f)

/-! ## The schedule -/

def dts : KI → Finset (Fin 3)
  | .inl _ => Finset.univ
  | .inr _ => {0}

/-- What cell `k` of device `c` hands over. The barrier's duty `d` is the device's in direction `d`, and hands over the
    rows there that `c`'s wires in that direction write. -/
def pay (c : Dev nD) (d : Fin 3) : KI → sProp 𝕄
  | .inl _ => bigSep (Finset.univ.filter fun x : Fin 44 => wdir x = d) fun x => dstU c x
  | .inr (.inl _) => iprop(wfP m c ∗ whP m c)
  | .inr (.inr (.inl q)) => iprop(xfP m c q ∗ xhP m c q)
  | .inr (.inr (.inr (.inl x))) => srcP m c x
  | .inr (.inr (.inr (.inr (.inl x)))) => xsP m c (wsuc x) fullShare
  | .inr (.inr (.inr (.inr (.inr p)))) => iprop(ouP m c p ∗ obP m c p)

instance pay_storable (c : Dev nD) (d : Fin 3) (k : KI) : BI.Storable (upEmb : UEmb _ 𝕄) (pay (F := F) m c d k) := by
  rcases k with _ | _ | q | x | x | p <;> unfold pay
  · unfold dstU; infer_instance
  · unfold wfP whP; infer_instance
  · unfold xfP xhP; infer_instance
  · unfold srcP; infer_instance
  · unfold xsP; infer_instance
  · unfold ouP obP; infer_instance

def Rd : Rounds.Schedule (GSem nD τ sig) (Fin 3) 𝕄 where
  duties g r := match kOf g with
    | some ck => if r = 0 then dts ck.2 else ∅
    | none => ∅
  unitless _ := False
  amount g _ _ := match kOf g with
    | some ck => amt ck.2
    | none => 1
  payload g _ d := match kOf g with
    | some ck => pay m ck.1 d ck.2
    | none => iprop(emp)
  amount_pos g _ _ _ := by
    cases kOf g with
    | none => exact Nat.one_pos
    | some ck => exact amt_pos ck.2

instance Rd_payload_storable (g : GSem nD τ sig) (r : ℕ) (d : Fin 3) :
    BI.Storable (upEmb : UEmb _ 𝕄) ((Rd (F := F) m).payload g r d) := by
  dsimp only [Rd]
  cases kOf g with
  | none => dsimp only; infer_instance
  | some ck => dsimp only; infer_instance

omit [FloatOps F] in
theorem duties_k [FloatOps F] (ck : Dev nD × KI) : (Rd (F := F) m).duties (kcell ck) 0 = dts ck.2 := by
  dsimp only [Rd]; rw [kOf_kcell]; exact if_pos rfl
theorem duties_later (ck : Dev nD × KI) : ∀ r, 1 ≤ r → (Rd (F := F) m).duties (kcell ck) r = ∅ := fun r hr => by
  dsimp only [Rd]; rw [kOf_kcell]; exact if_neg (by omega)
theorem amount_k (ck : Dev nD × KI) (d : Fin 3) : (Rd (F := F) m).amount (kcell ck) 0 d = amt ck.2 := by
  dsimp only [Rd]; rw [kOf_kcell]
theorem payload_k (ck : Dev nD × KI) (d : Fin 3) : (Rd (F := F) m).payload (kcell ck) 0 d = pay m ck.1 d ck.2 := by
  dsimp only [Rd]; rw [kOf_kcell]

theorem expect_bar (c : Dev nD) : (Rd (F := F) m).expect (kcell (c, kBar)) 0 = 3 := by
  unfold Schedule.expect Schedule.amountOf
  rw [duties_k, Finset.sum_congr rfl fun d _ => amount_k m (c, kBar) d]; rfl
theorem expect_k (c : Dev nD) (k : Unit ⊕ Fin 4 ⊕ Fin 44 ⊕ Fin 44 ⊕ Fin 48) : (Rd (F := F) m).expect (kcell (c, .inr k)) 0 = amt (.inr k) := by
  unfold Schedule.expect Schedule.amountOf
  rw [duties_k]; simp only [dts, Finset.sum_singleton]; rw [amount_k]
theorem rest_k (c : Dev nD) (k : Unit ⊕ Fin 4 ⊕ Fin 44 ⊕ Fin 44 ⊕ Fin 48) :
    bigSep ((Rd (F := F) m).duties (kcell (c, .inr k)) 0 \ ∅) (fun d => (Rd (F := F) m).payload (kcell (c, .inr k)) 0 d) = pay m c 0 (.inr k) := by
  rw [Finset.sdiff_empty, duties_k]; simp only [dts]; rw [bigSep_singleton, payload_k]
theorem rest_bar (c : Dev nD) :
    bigSep ((Rd (F := F) m).duties (kcell (c, kBar)) 0 \ ∅) (fun d => (Rd (F := F) m).payload (kcell (c, kBar)) 0 d)
      = bigSep Finset.univ fun d : Fin 3 => bigSep (Finset.univ.filter fun x : Fin 44 => wdir x = d) fun x => (dstU c x : sProp 𝕄) := by
  rw [Finset.sdiff_empty, duties_k]
  exact bigSep_congr fun d _ => payload_k m (c, kBar) d

/-! ## What a device owes; the levels -/

/-- The credit of wires `s`, `s + 1`, … of device `c`, owed to the receiving cells. -/
def owedW (c : Dev nD) (s : ℕ) : CellTallies nD τ sig Unit :=
  ∑ x ∈ Finset.univ.filter (fun x : Fin 44 => s ≤ x.val), tallyAt (kcell (wdst c x, kR x)) () (crX (wnr x))
/-- The barrier units owed when `g` of the three signals are made: to the left, to the right, across, in this order. -/
def owedB (c : Dev nD) : ℕ → CellTallies nD τ sig Unit
  | 0 => tallyAt (kcell ((dirE 2).symm c, kBar)) () 1 + tallyAt (kcell ((dirE 1).symm c, kBar)) () 1 + tallyAt (kcell ((dirE 0).symm c, kBar)) () 1
  | 1 => tallyAt (kcell ((dirE 2).symm c, kBar)) () 1 + tallyAt (kcell ((dirE 1).symm c, kBar)) () 1
  | 2 => tallyAt (kcell ((dirE 2).symm c, kBar)) () 1
  | _ => 0
def owed (c : Dev nD) (g s : ℕ) : CellTallies nD τ sig Unit := owedW c s + owedB c g

theorem owedW_step (c : Dev nD) (s : ℕ) (h : s < 44) :
    owedW c s = owedW c (s + 1) + tallyAt (kcell (wdst c ⟨s, h⟩, kR ⟨s, h⟩)) () (crX (wnr ⟨s, h⟩)) := by
  unfold owedW
  have : (Finset.univ.filter fun x : Fin 44 => s ≤ x.val) = insert ⟨s, h⟩ (Finset.univ.filter fun x : Fin 44 => s + 1 ≤ x.val) := by
    ext x; simp only [Finset.mem_filter, Finset.mem_univ, true_and, Finset.mem_insert, Fin.ext_iff]; omega
  rw [this, Finset.sum_insert (by simp), add_comm]
theorem owedW_end (c : Dev nD) : owedW c 44 = 0 := by
  unfold owedW
  rw [Finset.filter_false_of_mem (fun x _ => by have := x.isLt; omega), Finset.sum_empty]

def L (g : GSem nD τ sig) : Finset Unit := if g.1.2 = .tc then {()} else ∅
/-- Barrier cells at 1, the receiving cell of wire `x` at `x + 2`, the others at 0. -/
def lvK : KI → ℕ
  | .inl _ => 1
  | .inr (.inr (.inr (.inr (.inl x)))) => x.val + 2
  | _ => 0
def lv (g : GSem nD τ sig) (_ : Unit) : ℕ := match kOf g with
  | some ck => lvK ck.2
  | none => 0
theorem lv_k (ck : Dev nD × KI) (u : Unit) : lv (kcell ck) u = lvK ck.2 := by unfold lv; rw [kOf_kcell]
theorem L_of_ne (g : GSem nD τ sig) (h : g.1.2 ≠ .tc) : L g = ∅ := if_neg h
theorem L_tc (c : Dev nD) (sm : SemLoc sig) : L ((c : Thread nD τ), sm) = {()} := if_pos rfl

theorem owedW_pos {c : Dev nD} {s : ℕ} {g : GSem nD τ sig} {u : Unit} (h : 0 < owedW c s g u) :
    ∃ x : Fin 44, s ≤ x.val ∧ g = kcell (wdst c x, kR x) := by
  unfold owedW at h
  rw [Finset.sum_apply, Finsupp.finset_sum_apply] at h
  obtain ⟨x, hx, h'⟩ := Finset.exists_ne_zero_of_sum_ne_zero h.ne'
  rw [tallyAt_apply] at h'
  refine ⟨x, (Finset.mem_filter.mp hx).2, ?_⟩
  by_contra hn
  exact h' (if_neg fun h => hn h.1)
theorem owedB_pos {c : Dev nD} {s : ℕ} {g : GSem nD τ sig} {u : Unit} (h : 0 < owedB c s g u) :
    ∃ c', g = kcell (c', kBar) := by
  by_contra hn
  rw [not_exists] at hn
  have hz : ∀ d : Fin 3, (tallyAt (kcell ((dirE d).symm c, kBar)) () 1 : CellTallies nD τ sig Unit) g u = 0 := fun d => by
    rw [tallyAt_apply]; exact if_neg fun h => hn _ h.1
  have h' : owedB c s g u = 0 := by
    match s with
    | 0 => rw [show owedB c 0 = tallyAt (kcell ((dirE 2).symm c, kBar)) () 1 + tallyAt (kcell ((dirE 1).symm c, kBar)) () 1 + tallyAt (kcell ((dirE 0).symm c, kBar)) () 1 from rfl]; rw [Pi.add_apply, Finsupp.add_apply, Pi.add_apply, Finsupp.add_apply, hz, hz, hz]
    | 1 => rw [show owedB c 1 = tallyAt (kcell ((dirE 2).symm c, kBar)) () 1 + tallyAt (kcell ((dirE 1).symm c, kBar)) () 1 from rfl]; rw [Pi.add_apply, Finsupp.add_apply, hz, hz]
    | 2 => rw [show owedB c 2 = tallyAt (kcell ((dirE 2).symm c, kBar)) () 1 from rfl]; rw [hz]
    | _ + 3 => rfl
  omega
theorem owed_pos {c : Dev nD} {g s : ℕ} {gs : GSem nD τ sig} {u : Unit} (h : 0 < owed c g s gs u) :
    (∃ x : Fin 44, s ≤ x.val ∧ gs = kcell (wdst c x, kR x)) ∨ ∃ c', gs = kcell (c', kBar) := by
  unfold owed at h
  rw [Pi.add_apply, Finsupp.add_apply] at h
  rcases Nat.eq_zero_or_pos (owedW c s gs u) with h0 | h0
  · exact .inr (owedB_pos (by omega : 0 < owedB c g gs u))
  · exact .inl (owedW_pos h0)

/-- A device may wait on a cell at level 0 whatever it owes; -/
theorem mayWait_low (c : Dev nD) (sm : SemLoc sig) (h0 : lv ((c : Thread nD τ), sm) () = 0) (g s : ℕ) :
    (levAts L lv : sProp 𝕄) ⊢ MayWait (c : Thread nD τ) sm () (owed c g s) :=
  MayOwe.of_cut (L := L) (lev := lv) 0 (fun p hp => by rw [Finset.mem_singleton.mp hp, L_tc]; exact Finset.mem_singleton_self _)
    (fun g u hg => by rcases owed_pos hg with ⟨x, -, rfl⟩ | ⟨c', rfl⟩ <;> (rw [L_tc]; exact Finset.mem_singleton_self _))
    (fun p hp => by rw [Finset.mem_singleton.mp hp]; exact h0.le)
    (fun g u hg => by rcases owed_pos hg with ⟨x, -, rfl⟩ | ⟨c', rfl⟩ <;> (rw [lv_k]; simp only [lvK]; omega))
/-- on a receiving cell, or on the barrier, once the wires up to it (all barrier units) are issued. -/
theorem mayWait_lv (c : Dev nD) (k : KI) (s g : ℕ) (hg : 3 ≤ g) (h0 : lvK k < s + 2) :
    (levAts L lv : sProp 𝕄) ⊢ MayWait (c : Thread nD τ) (csem k) () (owed c g s) := by
  have hB : owedB c g = 0 := by
    match g, hg with
    | _ + 3, _ => rfl
  have hO : owed c g s = owedW c s := by unfold owed; rw [hB, add_zero]
  rw [hO]
  exact MayOwe.of_cut (L := L) (lev := lv) (s + 1) (fun p hp => by rw [Finset.mem_singleton.mp hp, L_tc]; exact Finset.mem_singleton_self _)
    (fun g u hg => by obtain ⟨x, -, rfl⟩ := owedW_pos hg; rw [L_tc]; exact Finset.mem_singleton_self _)
    (fun p hp => by rw [Finset.mem_singleton.mp hp, show ((c : Thread nD τ), csem k) = kcell (c, k) from rfl, lv_k]; simp only; omega)
    (fun g u hg => by obtain ⟨x, hx, rfl⟩ := owedW_pos hg; rw [lv_k]; simp only [lvK]; omega)

end Cert.GatherProof

end
-- ==== Proof.Views.lean ====
/-
# What the kernel's accesses read and write

The rows an access covers are a `box` of a chunked buffer or `rows` of a flat one; what a load returns and what a
store or a transfer leaves there are the contents `XS`, `OB`, `OUT` of the exchange.
-/
module

public import proofs.«01_k».proof.Proof.Sched

@[expose] public section

noncomputable section

namespace Cert.GatherProof

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ)

/-- Reading through a view and writing the result through the same view copies the view's elements. -/
theorem write_read_self {κ : Kind} {sp : Space} {s : Shape} {e : EltTy} (v : View sig κ sp s e) (fd fs : v.ty.Contents (Elt F)) :
    ∀ i ∈ v.set, v.write (Elt F) fd (v.read (Elt F) fs) Finset.univ i = fs i := by
  intro i hi
  obtain ⟨x, -, rfl⟩ := Finset.mem_map.mp hi
  rw [View.write_emb_of_mem _ _ (Finset.mem_univ _), View.read_apply, cast_cast]
  rfl

section Slices

abbrev xsM : Memref sig .tc .vmem S8x512x4096 .fp8e4m3 := Memref.whole cc0_scratch0
abbrev xfM : Memref sig .tc .vmem S512x4096 .f32 := Memref.whole cc0_scratch1
abbrev wfM : Memref sig .tc .vmem S4096x256 .f32 := Memref.whole cc0_scratch2
abbrev w8M : Memref sig .tc .vmem S4096x256 .fp8e5m2 := Memref.whole cc0_scratch3
abbrev obM : Memref sig .tc .vmem S8x512x256 .f32 := Memref.whole cc0_scratch4
abbrev xhM : Memref sig .tc .hbm S512x4096 .f32 := Memref.whole main_arg0
abbrev whM : Memref sig .tc .hbm S4096x256 .f32 := Memref.whole main_arg1
abbrev ouM : Memref sig .tc .hbm S4096x256 .f32 := Memref.whole main_v1
abbrev sxM : Memref sig .tc .smem S1 .f32 := Memref.whole cc0_stg0_0
abbrev swM : Memref sig .tc .smem S1 .f32 := Memref.whole cc0_stg1_0

theorem size3 {nr n : ℕ} : (⟨3, ![1, nr, n]⟩ : Shape).size = ![1, nr, n] := rfl

/-- The sets the accesses cover. -/
theorem xs_access_set {off : Fin 3 → ℕ} {k o nr : ℕ} (ho : off = ![k, o, 0]) (inb : ∀ a, off a + (⟨3, ![1, nr, 4096]⟩ : Shape).size a ≤ S8x512x4096.size a) :
    (xsM.access (Rect.unit (s := S8x512x4096) off (⟨3, ![1, nr, 4096]⟩ : Shape).size inb)).set = box 4096 k o nr := by
  show ((View.whole cc0_scratch0).slice _).set = _
  rw [View.set_slice_whole]; exact box_eq ho inb
theorem ob_access_set {off : Fin 3 → ℕ} {k o nr : ℕ} (ho : off = ![k, o, 0]) (inb : ∀ a, off a + (⟨3, ![1, nr, 256]⟩ : Shape).size a ≤ S8x512x256.size a) :
    (obM.access (Rect.unit (s := S8x512x256) off (⟨3, ![1, nr, 256]⟩ : Shape).size inb)).set = box 256 k o nr := by
  show ((View.whole cc0_scratch4).slice _).set = _
  rw [View.set_slice_whole]; exact box_eq ho inb
theorem xs_view_set {off : Fin 3 → ℕ} {k o nr : ℕ} (ho : off = ![k, o, 0]) (inb : ∀ a, off a + (⟨3, ![1, nr, 4096]⟩ : Shape).size a ≤ S8x512x4096.size a) (hc hq) :
    ((xsM.slice (Rect.unit (s := S8x512x4096) off (⟨3, ![1, nr, 4096]⟩ : Shape).size inb) hc).squeeze ⟨2, ![nr, 4096]⟩ hq).view.set = box 4096 k o nr := by
  exact (View.set_reshape _ _).trans (xs_access_set ho inb)
theorem ob_view_set {off : Fin 3 → ℕ} {k o nr : ℕ} (ho : off = ![k, o, 0]) (inb : ∀ a, off a + (⟨3, ![1, nr, 256]⟩ : Shape).size a ≤ S8x512x256.size a) (hc hq) :
    ((obM.slice (Rect.unit (s := S8x512x256) off (⟨3, ![1, nr, 256]⟩ : Shape).size inb) hc).squeeze ⟨2, ![nr, 256]⟩ hq).view.set = box 256 k o nr := by
  exact (View.set_reshape _ _).trans (ob_access_set ho inb)
theorem ou_view_set {off : Fin 2 → ℕ} {o nr : ℕ} (ho : off = ![o, 0]) (inb : ∀ a, off a + (⟨2, ![nr, 256]⟩ : Shape).size a ≤ S4096x256.size a) (hc) :
    (ouM.slice (Rect.unit (s := S4096x256) off (⟨2, ![nr, 256]⟩ : Shape).size inb) hc).view.set = rows 4096 256 o nr := by
  show ((View.whole main_v1).slice _).set = _
  rw [View.set_slice_whole]; exact rows_eq ho inb
theorem xf_view_set {off : Fin 2 → ℕ} {o nr : ℕ} (ho : off = ![o, 0]) (inb : ∀ a, off a + (⟨2, ![nr, 4096]⟩ : Shape).size a ≤ S512x4096.size a) (hc) :
    (xfM.slice (Rect.unit (s := S512x4096) off (⟨2, ![nr, 4096]⟩ : Shape).size inb) hc).view.set = rows 512 4096 o nr := by
  show ((View.whole cc0_scratch1).slice _).set = _
  rw [View.set_slice_whole]; exact rows_eq ho inb
theorem xh_view_set {off : Fin 2 → ℕ} {o nr : ℕ} (ho : off = ![o, 0]) (inb : ∀ a, off a + (⟨2, ![nr, 4096]⟩ : Shape).size a ≤ S512x4096.size a) (hc) :
    (xhM.slice (Rect.unit (s := S512x4096) off (⟨2, ![nr, 4096]⟩ : Shape).size inb) hc).view.set = rows 512 4096 o nr := by
  show ((View.whole main_arg0).slice _).set = _
  rw [View.set_slice_whole]; exact rows_eq ho inb

/-- The values. A load of a piece reads its rows; -/
theorem xs_read {off : Fin 3 → ℕ} {k o nr : ℕ} (ho : off = ![k, o, 0]) (inb : ∀ a, off a + (⟨3, ![1, nr, 4096]⟩ : Shape).size a ≤ S8x512x4096.size a) :
    xsM.view.readAt (Elt F) (Rect.unit (s := S8x512x4096) off (⟨3, ![1, nr, 4096]⟩ : Shape).size inb).toLoadRect (XS m) = rdX m nr k o := by
  rw [View.readAt_rect]
  funext x
  rw [View.read_apply]
  show XS m ((Rect.unit (s := S8x512x4096) off (⟨3, ![1, nr, 4096]⟩ : Shape).size inb).emb x) = XS m _
  subst ho
  have h0 : k + 1 ≤ 8 := inb 0
  have h1 : o + nr ≤ 512 := inb 1
  have hx0 : (x 0).val < 1 := (x 0).isLt
  have hx1 : (x 1).val < nr := (x 1).isLt
  congr 1
  funext a
  match a with
  | ⟨0, _⟩ => exact Fin.ext (by show k + 1 * (x 0).val = k % 8; omega)
  | ⟨1, _⟩ => exact Fin.ext (by show o + 1 * (x 1).val = (o + (x 1).val) % 512; omega)
  | ⟨2, _⟩ => exact Fin.ext (by show 0 + 1 * (x 2).val = (x 2).val; omega)

/-- a store of a cast quarter of the device's rows leaves `XS` there; -/
theorem xs_write (c : Dev nD) {off : Fin 3 → ℕ} {o : ℕ} (ho : off = ![c.val, o, 0]) (inb : ∀ a, off a + S1x128x4096.size a ≤ S8x512x4096.size a)
    {off' : Fin 2 → ℕ} (ho' : off' = ![o, 0]) (inb' : ∀ a, off' a + S128x4096.size a ≤ S512x4096.size a)
    (f : S8x512x4096.Idx → Elt F .fp8e4m3) :
    ∀ i ∈ box 4096 c.val o 128, (xsM.access (Rect.unit (s := S8x512x4096) off S1x128x4096.size inb)).write (Elt F) f
      (k0_pay2 (xfM.view.readAt (Elt F) (Rect.unit (s := S512x4096) off' S128x4096.size inb').toLoadRect (xb m c))) Finset.univ i = XS m i := by
  intro i hi
  rw [← xs_access_set ho inb] at hi
  obtain ⟨x, -, rfl⟩ := Finset.mem_map.mp hi
  rw [View.write_emb_of_mem _ _ (Finset.mem_univ _)]
  subst ho ho'
  have hx0 : (x 0).val < 1 := (x 0).isLt
  have hx1 : (x 1).val < 128 := (x 1).isLt
  show shapeCast S1x128x4096 (truncf (F := F) .fp8e4m3 _ _) _ x = XS m _
  rw [show x = ix3 (0 : Fin 1) (x 1) (x 2) from by
    funext a
    match a with
    | ⟨0, _⟩ => exact Fin.ext (by show (x 0).val = 0; omega)
    | ⟨1, _⟩ => rfl
    | ⟨2, _⟩ => rfl]
  erw [shapeCast_ab_1ab_apply]
  unfold XS
  have key : ∀ (u v : S512x4096.Idx) (d : Dev nD), d = c → u = v →
      FloatOps.truncf FTy.fp8e4m3 bitsLt_fp8e4m3_f32 (xb m c u) = FloatOps.truncf FTy.fp8e4m3 bitsLt_fp8e4m3_f32 (xb m d v) := by
    rintro u v d rfl rfl; rfl
  refine key _ _ _ ?_ ?_
  · exact Fin.ext (by show c.val + 1 * 0 = c.val; omega)
  · funext a
    match a with
    | ⟨0, _⟩ => exact Fin.ext rfl
    | ⟨1, _⟩ => exact Fin.ext rfl

/-- a store of a product leaves `OB` there; -/
theorem ob_write (c : Dev nD) {off : Fin 3 → ℕ} {k o nr : ℕ} (ho : off = ![k, o, 0])
    (inb : ∀ a, off a + (⟨3, ![1, nr, 256]⟩ : Shape).size a ≤ S8x512x256.size a)
    (f : S8x512x256.Idx → Elt F .f32) (w : (⟨3, ![1, nr, 256]⟩ : Shape).Idx → Elt F .f32)
    (hw : ∀ (x : (⟨3, ![1, nr, 256]⟩ : Shape).Idx) (i : S8x512x256.Idx), (i 0).val = k → (i 1).val = o + (x 1).val → (i 2).val = (x 2).val → w x = OB m c i) :
    ∀ i ∈ box 256 k o nr, (obM.access (Rect.unit (s := S8x512x256) off (⟨3, ![1, nr, 256]⟩ : Shape).size inb)).write (Elt F) f w Finset.univ i = OB m c i := by
  intro i hi
  rw [← ob_access_set ho inb] at hi
  obtain ⟨x, -, rfl⟩ := Finset.mem_map.mp hi
  rw [View.write_emb_of_mem _ _ (Finset.mem_univ _)]
  subst ho
  have hx0 : (x 0).val < 1 := (x 0).isLt
  refine hw x _ ?_ ?_ ?_
  · show k + 1 * (x 0).val = k; omega
  · show o + 1 * (x 1).val = _; omega
  · show 0 + 1 * (x 2).val = _; omega
theorem ob_val128 (c : Dev nD) (k o : ℕ) (hk : k / 4 = c.val / 4) (ho : o % 128 = 0) (x : S1x128x256.Idx) (i : S8x512x256.Idx)
    (h0 : (i 0).val = k) (h1 : (i 1).val = o + (x 1).val) (h2 : (i 2).val = (x 2).val) :
    k0_pay7 (scl m c) (rdX m 128 k o) (W8 m c) x = OB m c i := by
  have hx0 : (x 0).val < 1 := (x 0).isLt
  have hx1 : (x 1).val < 128 := (x 1).isLt
  unfold OB
  rw [if_pos (by rw [h0, hk]), h0, show (i 1).val / 128 * 128 = o by omega]
  congr 1
  funext a
  match a with
  | ⟨0, _⟩ => exact Fin.ext (by show (x 0).val = 0; omega)
  | ⟨1, _⟩ => exact Fin.ext (by show (x 1).val = (i 1).val % 128; omega)
  | ⟨2, _⟩ => exact Fin.ext h2.symm
theorem ob_val64 (c : Dev nD) (k o : ℕ) (hk : k / 4 ≠ c.val / 4) (ho : o % 64 = 0) (x : S1x64x256.Idx) (i : S8x512x256.Idx)
    (h0 : (i 0).val = k) (h1 : (i 1).val = o + (x 1).val) (h2 : (i 2).val = (x 2).val) :
    k0_pay15 (scl m c) (rdX m 64 k o) (W8 m c) x = OB m c i := by
  have hx0 : (x 0).val < 1 := (x 0).isLt
  have hx1 : (x 1).val < 64 := (x 1).isLt
  unfold OB
  rw [if_neg (by rw [h0]; exact hk), h0, show (i 1).val / 64 * 64 = o by omega]
  congr 1
  funext a
  match a with
  | ⟨0, _⟩ => exact Fin.ext (by show (x 0).val = 0; omega)
  | ⟨1, _⟩ => exact Fin.ext (by show (x 1).val = (i 1).val % 64; omega)
  | ⟨2, _⟩ => exact Fin.ext h2.symm

/-- a load of a quarter of the device's rows leaves them; -/
theorem xf_landed (c : Dev nD) {off : Fin 2 → ℕ} {o : ℕ} (ho : off = ![o, 0]) (inb : ∀ a, off a + S128x4096.size a ≤ S512x4096.size a) (hc hc')
    (f : S512x4096.Idx → Elt F .f32) :
    ∀ i ∈ rows 512 4096 o 128, (xfM.slice (Rect.unit (s := S512x4096) off S128x4096.size inb) hc).view.write (Elt F) f
      ((xhM.slice (Rect.unit (s := S512x4096) off S128x4096.size inb) hc').view.read (Elt F) (xb m c)) Finset.univ i = xb m c i := by
  intro i hi
  rw [← xf_view_set ho inb hc] at hi
  obtain ⟨x, -, rfl⟩ := Finset.mem_map.mp hi
  rw [View.write_emb_of_mem _ _ (Finset.mem_univ _)]
  rfl

/-- a copy of a finished piece leaves `OUT` there. -/
theorem ou_landed (c : Dev nD) {off : Fin 3 → ℕ} {k o nr : ℕ} (ho : off = ![k, o, 0])
    (inb : ∀ a, off a + (⟨3, ![1, nr, 256]⟩ : Shape).size a ≤ S8x512x256.size a) (hc hq)
    {off' : Fin 2 → ℕ} (ho' : off' = ![512 * k + o, 0]) (inb' : ∀ a, off' a + (⟨2, ![nr, 256]⟩ : Shape).size a ≤ S4096x256.size a) (hc')
    (f : S4096x256.Idx → Elt F .f32) :
    ∀ i ∈ rows 4096 256 (512 * k + o) nr, (ouM.slice (Rect.unit (s := S4096x256) off' (⟨2, ![nr, 256]⟩ : Shape).size inb') hc').view.write (Elt F) f
      (((obM.slice (Rect.unit (s := S8x512x256) off (⟨3, ![1, nr, 256]⟩ : Shape).size inb) hc).squeeze ⟨2, ![nr, 256]⟩ hq).view.read (Elt F) (OB m c))
        Finset.univ i = OUT m c i := by
  intro i hi
  rw [← ou_view_set ho' inb' hc'] at hi
  obtain ⟨x, -, rfl⟩ := Finset.mem_map.mp hi
  rw [View.write_emb_of_mem _ _ (Finset.mem_univ _), View.read_apply]
  subst ho ho'
  have h1 : o + nr ≤ 512 := inb 1
  have hx : (x 0).val < nr := (x 0).isLt
  show OB m c ((Rect.unit (s := S8x512x256) ![k, o, 0] (⟨3, ![1, nr, 256]⟩ : Shape).size inb).emb (Shape.reshapeEquiv _ x)) = OB m c _
  rw [Shape.reshapeEquiv_cons_one]
  congr 1
  funext a
  match a with
  | ⟨0, _⟩ => exact Fin.ext (by show k + 1 * 0 = (512 * k + o + 1 * (x 0).val) / 512; omega)
  | ⟨1, _⟩ => exact Fin.ext (by show o + 1 * (x 0).val = (512 * k + o + 1 * (x 0).val) % 512; omega)
  | ⟨2, _⟩ => exact Fin.ext (by show 0 + 1 * (x 1).val = 0 + 1 * (x 1).val; omega)

theorem hz2 : (![0, 0] : Fin 2 → ℕ) = fun _ => 0 := funext fun a => by fin_cases a <;> rfl

end Slices

end Cert.GatherProof

end
-- ==== Proof.State.lean ====
/-
# A device's state while it runs

Everything a device holds, as one predicate over eleven counters: how many loads of `x` it has started and awaited, how
far the load of `w` is, whether the cast of `w` is stored, how many barrier signals it made, whether it passed the
barrier, how many wires it sent and how many of those it awaited, how many pieces arrived, how far the products are,
and how many copies out it awaited. Each resource family is a product over pieces, wires or quarters, a member's state
read off the counters.
-/
module

public import proofs.«01_k».proof.Proof.Views

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)

abbrev 𝒱₀ : Variants := Variants.none

/-! ## Families -/

/-- A product of resources, the member `a` in state `σ a`. -/
def fam {n : ℕ} (Φ : Fin n → ℕ → sProp 𝕄) (σ : Fin n → ℕ) : sProp 𝕄 := bigSep Finset.univ fun a => Φ a (σ a)

/-- One member moves on, the others stay. -/
theorem fam_step {n : ℕ} (Φ : Fin n → ℕ → sProp 𝕄) {σ σ' : Fin n → ℕ} (a : Fin n) (u v : ℕ) (hu : σ a = u) (hv : σ' a = v)
    (hne : ∀ b, b ≠ a → σ' b = σ b) : fam Φ σ ⊢ iprop(Φ a u ∗ (Φ a v -∗ fam Φ σ')) := by
  subst hu hv
  unfold fam
  rw [bigSep_erase (Finset.mem_univ a), bigSep_erase (Finset.mem_univ a) (Φ := fun a => Φ a (σ' a)),
    bigSep_congr (s := Finset.univ.erase a) (Φ := fun b => Φ b (σ' b)) (Ψ := fun b => Φ b (σ b)) fun b hb => by
      rw [hne b (Finset.ne_of_mem_erase hb)]]
  exact sep_mono_right (wand_intro_left (Entails.refl _))
theorem fam_keep {n : ℕ} (Φ : Fin n → ℕ → sProp 𝕄) {σ : Fin n → ℕ} (a : Fin n) (u : ℕ) (hu : σ a = u) :
    fam Φ σ ⊢ iprop(Φ a u ∗ (Φ a u -∗ fam Φ σ)) := fam_step Φ a u u hu hu fun _ _ => rfl

/-- One if the condition holds. -/
abbrev thr (p : Prop) [Decidable p] : ℕ := if p then 1 else 0

abbrev tk (ck : Dev nD × KI) (d : Fin 3) : sProp 𝕄 := dutyTok ER (kcell ck) 0 d
abbrev ps (ck : Dev nD × KI) : sProp 𝕄 := atPos ER (kcell ck) 0 ∅ 0
abbrev cr (ck : Dev nD × KI) (n : ℕ) : sProp 𝕄 := cred (tallyAt (kcell ck) () n)
abbrev zs (ck : Dev nD × KI) : sProp 𝕄 := semVal (kcell ck) 0

theorem bigSep_at {I : Type} [Fintype I] (Φ : I → sProp 𝕄) (i : I) : bigSep Finset.univ Φ ⊢ Φ i := by
  classical exact bigSep_elim (Finset.mem_univ i)

/-- What every device knows: all cells' invariants, that all are at round 0, the levels. -/
def recs : sProp 𝕄 :=
  iprop((bigSep Finset.univ fun ck : Dev nD × KI => cellInv ER (Rd m) (K ck) (kcell ck))
    ∗ (bigSep Finset.univ fun ck : Dev nD × KI => reached ER (kcell ck) 0) ∗ levAts L lv)
instance recs_persistent : BI.Persistent (recs (F := F) m K) := by unfold recs; infer_instance

theorem recs_inv (ck : Dev nD × KI) : recs (F := F) m K ⊢ cellInv ER (Rd m) (K ck) (kcell ck) := by
  unfold recs; iintro ⟨H, -, -⟩; iapply (bigSep_at (fun ck : Dev nD × KI => cellInv ER (Rd m) (K ck) (kcell ck)) ck); iexact H
theorem recs_reached (ck : Dev nD × KI) : recs (F := F) m K ⊢ reached ER (kcell ck) 0 := by
  unfold recs; iintro ⟨-, H, -⟩; iapply (bigSep_at (fun ck : Dev nD × KI => reached ER (kcell ck) 0) ck); iexact H
theorem recs_lev : recs (F := F) m K ⊢ levAts L lv := by
  unfold recs; iintro ⟨-, -, H⟩; iexact H

/-- A quarter of the device's rows: at rest; in flight; landed. -/
def fX (q : Fin 4) : ℕ → sProp 𝕄
  | 0 => iprop(xhP m c q ∗ xfU c q ∗ tk (c, kX q) 0 ∗ ps (c, kX q))
  | 1 => iprop(cr (c, kX q) crF ∗ ps (c, kX q))
  | _ => iprop(zs (c, kX q) ∗ xfP m c q ∗ xhP m c q)
/-- The columns of `w`: the same. -/
def fW : ℕ → sProp 𝕄
  | 0 => iprop(whP m c ∗ wfU c ∗ tk (c, kW) 0 ∗ ps (c, kW))
  | 1 => iprop(cr (c, kW) crW ∗ ps (c, kW))
  | _ => iprop(zs (c, kW) ∗ wfP m c ∗ whP m c)
/-- Their cast. -/
def fE : ℕ → sProp 𝕄
  | 0 => iprop(∃ f : Buf (Elt F) (lW8 c), lW8 c ↦{fullShare} f)
  | _ => iprop(lW8 c ↦{fullShare} W8 m c)
/-- The signal for direction `d`: to be made, with the rows it hands over; made. -/
def fG (d : Fin 3) : ℕ → sProp 𝕄
  | 0 => iprop(tk ((dirE d).symm c, kBar) d ∗ pay m ((dirE d).symm c) d kBar)
  | _ => iprop(emp)
/-- The barrier: before; after. -/
def fB : ℕ → sProp 𝕄
  | 0 => iprop(cr (c, kBar) 3 ∗ ps (c, kBar))
  | _ => iprop(zs (c, kBar))
/-- A wire: before the barrier; before it is sent; in flight; its borrowed rows back. -/
def fS (x : Fin 44) : ℕ → sProp 𝕄
  | 0 => iprop(tk (c, kS x) 0 ∗ ps (c, kS x) ∗ tk (wdst c x, kR x) 0)
  | 1 => iprop(dstU c x ∗ tk (c, kS x) 0 ∗ ps (c, kS x) ∗ tk (wdst c x, kR x) 0)
  | 2 => iprop(cr (c, kS x) (crX (wnr x)) ∗ ps (c, kS x))
  | _ => iprop(zs (c, kS x) ∗ srcP m c x)
/-- A piece of the gathered buffer: own rows before they are cast, others' before they arrive; there, with the share kept. -/
def fA (p : Fin 48) : ℕ → sProp 𝕄
  | 0 => if p.val < 4 then xsU c p else iprop(cr (c, kR (wprd p)) (crX (wnr (wprd p))) ∗ ps (c, kR (wprd p)))
  | _ => if p.val < 4 then xsP m c p (ksh p) else iprop(zs (c, kR (wprd p)) ∗ xsP m c p (ksh p))
/-- A piece of the result: nothing; stored; on its way out; out. -/
def fC (p : Fin 48) : ℕ → sProp 𝕄
  | 0 => iprop(obU c p ∗ ouU c p ∗ tk (c, kC p) 0 ∗ ps (c, kC p))
  | 1 => iprop(obP m c p ∗ ouU c p ∗ tk (c, kC p) 0 ∗ ps (c, kC p))
  | 2 => iprop(cr (c, kC p) (crO (pnr p)) ∗ ps (c, kC p))
  | _ => iprop(zs (c, kC p) ∗ ouP m c p ∗ obP m c p)

/-- The quarters in the order they are loaded (its own inverse), the wires in the order they are awaited at the end. -/
def xord : Fin 4 → Fin 4 := ![0, 2, 1, 3]
theorem xord_xord : ∀ q, xord (xord q) = q := by decide
def word (f : Fin 44) : Fin 44 :=
  if h : f.val < 8 then ⟨3 * (f.val / 2) + 1 + f.val % 2, by omega⟩
  else if h : f.val < 12 then ⟨3 * (f.val - 8), by omega⟩ else f
theorem wfin_word : ∀ f, wfin (word f) = f.val := by decide +kernel

def σX (x y : ℕ) (q : Fin 4) : ℕ := thr ((xord q).val < x) + thr ((xord q).val < y)
def σG (g : ℕ) (d : Fin 3) : ℕ := thr (d.val < g)
def σS (b s f : ℕ) (x : Fin 44) : ℕ := thr (0 < b) + thr (x.val < s) + thr (wfin x < f)
def σA (a : ℕ) (p : Fin 48) : ℕ := thr (arank p < a)
def σC (n z : ℕ) (p : Fin 48) : ℕ := thr (2 * p.val < n) + thr (2 * p.val + 1 < n) + thr (p.val < z)

/-- The two scales, staged. -/
def SM : sProp 𝕄 := iprop(((c : Thread nD τ).loc cc0_stg0_0 ↦{fullShare} sxb m c) ∗ ((c : Thread nD τ).loc cc0_stg1_0 ↦{fullShare} swb m c))

/-- The device's state. `R` holds the borrowed shares of rows about to be sent. -/
def St (x y w e g b s f a n z : ℕ) (R : sProp 𝕄) : sProp 𝕄 :=
  iprop(recs m K ∗ (∃ W, owes (c : Thread nD τ) (owed c g s) W) ∗ fam (fX m c) (σX x y) ∗ fW m c w ∗ fE m c e ∗ fam (fG m c) (σG g)
    ∗ fB c b ∗ fam (fS m c) (σS b s f) ∗ fam (fA m c) (σA a) ∗ fam (fC m c) (σC n z) ∗ SM m c ∗ R)

abbrev W1 {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Points-to, moved along equal sets and contents -/

theorem pt_set {ℓ : Loc nD τ sig} {S S' : Finset (Idx ℓ)} {q : PosShare TreeShare} {f : Buf (Elt F) ℓ} (h : S = S') :
    (ℓ ↦[S]{q} f : sProp 𝕄) ⊢ (ℓ ↦[S']{q} f) := by subst h; exact Entails.refl _
theorem pt_eqv {ℓ : Loc nD τ sig} {S S' : Finset (Idx ℓ)} {q : PosShare TreeShare} {f f' : Buf (Elt F) ℓ} (h : S = S')
    (hf : ∀ i ∈ S', f i = f' i) : (ℓ ↦[S]{q} f : sProp 𝕄) ⊢ (ℓ ↦[S']{q} f') := by
  subst h; exact Entails.of_eq (pointsTo_congr hf)

/-! ## Waiting on a transfer cell -/

def dsem (k : Unit ⊕ Fin 4 ⊕ Fin 44 ⊕ Fin 44 ⊕ Fin 48) : DmaSem sig := ⟨kN (.inr k), kN_lt _⟩

theorem wait_k (k : Unit ⊕ Fin 4 ⊕ Fin 44 ⊕ Fin 44 ⊕ Fin 48) {O : CellTallies nD τ sig Unit} {W : Waits sig Unit}
    (hlv : (levAts L lv : sProp 𝕄) ⊢ MayWait (c : Thread nD τ) (csem (.inr k)) () O)
    {sp sp' : Space} {s s' : Shape} {e e' : EltTy} {sem : DmaSem sig} {src : Memref sig .tc sp' s' e'} {dst : Memref sig .tc sp s e}
    {hsrc : src.view.WordExact} {hdst : dst.view.WordExact} (hsem : sem = dsem k) (ha : dst.view.dmaCredit = amt (.inr k))
    {α : Type} {Q : α → sProp 𝕄} {kk : PUnit → Prog (TpuEff nD τ sig (Elt F) Λ₀ .tc) α} :
    iprop(recs m K ∗ owes (c : Thread nD τ) O W ∗ cr (c, .inr k) (amt (.inr k)) ∗ ps (c, .inr k))
      ⊢ iprop(((∃ W', owes (c : Thread nD τ) O W') -∗ zs (c, .inr k) -∗ pay m c 0 (.inr k) -∗ W1 c (kk ⟨⟩) Q)
          -∗ W1 c (.op (.waitDma2 sem src dst hsrc hdst) kk) Q) := by
  subst hsem
  iintro ⟨#Hr, HO, HC, HP⟩ Hk
  iapply (Rounds.wp_wait_rest_token 𝒱₀ ER (Rd m) (c : Thread nD τ) none (κ := K (c, .inr k)) (sm := csem (.inr k))
      (wpE_waitDma2_eq 𝒱₀ (c : Thread nD τ) none Set.univ) (Set.mem_univ _) () (O := O) (W := W) (R := 0) (m := 0) (T := ∅)
      ((Nat.zero_add _).trans (ha.trans (expect_k m c k).symm))) $$ [HO HC HP]
  · isplitr; · iapply (recs_inv m K (c, .inr k)); iexact Hr
    isplitl [HC]; · rw [ha]; iexact HC
    isplitl [HO]; · iexact HO
    isplitr; · iapply hlv; iapply (recs_lev m K); iexact Hr
    iexact HP
  iintro ⟨HO, HP, -, Hpay⟩
  ihave Hp := (Entails.of_eq (rest_k m c k)) $$ Hpay
  imod (Rounds.cell_close ER (Rd m) (Set.mem_univ (K (c, .inr k))) (fun h => h) (R := 0 + 1) (duties_later m (c, .inr k))) $$ [HP] with HZ
  · isplitr; · iapply (recs_inv m K (c, .inr k)); iexact Hr
    iexact HP
  iapply Hk $$ [HO] HZ Hp
  iexists _; iexact HO

end Cert.GatherProof

end
-- ==== Proof.StepsA.lean ====
/-
# The device's steps: loads of `x` and `w`, the barrier, the sends

One lemma per kind of operation, from the state before it to the state after it. Where an operation names rows, a
device or a semaphore by an expression, the lemma takes that it is the one the counters say.
-/
module

public import proofs.«01_k».proof.Proof.State

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}
variable {α : Type} {Q : α → sProp (MT nD τ sig Unit (Elt F) ℕ UU ℕ)}

/-- A program of this device. -/
abbrev TP (F : FTy → Type) (β : Type) := Prog (TpuEff nD τ sig (Elt F) Λ₀ .tc) β

theorem st_dev {k : Dev nD → TP F α} (h : St m K c x y w e g b s f a n z R ⊢ W1 c (k c) Q) :
    St m K c x y w e g b s f a n z R ⊢ W1 c (.op .deviceId k) Q := by
  unfold W1 at h ⊢
  rw [wp_deviceId]; exact h

/-! ## One member of one family at a time -/

/-- What the device owes after `g` signals and `s` wires. -/
def ow (c : Dev nD) (g s : ℕ) : sProp 𝕄 := iprop(∃ W, owes (c : Thread nD τ) (owed c g s) W)

variable {x' y' w' e' g' b' s' f' a' n' z' : ℕ} {R' : sProp (MT nD τ sig Unit (Elt F) ℕ UU ℕ)}

theorem accX (q : Fin 4) {u v : ℕ} (h : σX x y q = u ∧ σX x' y' q = v ∧ ∀ j, j ≠ q → σX x' y' j = σX x y j) :
    St m K c x y w e g b s f a n z R ⊢ iprop(recs m K ∗ ow c g s ∗ fX m c q u ∗ R ∗ (ow c g s -∗ fX m c q v -∗ R' -∗ St m K c x' y' w e g b s f a n z R')) := by
  unfold St ow
  iintro ⟨Hr, HO, HX, HW, HE, HG, HB, HS, HA, HC, HM, HR⟩
  ihave HX := (fam_step (fX m c) q u v h.1 h.2.1 h.2.2) $$ HX
  icases HX with ⟨Hq, HX⟩
  icases Hr with #Hr
  isplitr; · iexact Hr
  iframe HO Hq HR
  iintro HO Hq HR
  ihave HX := HX $$ Hq
  isplitr; · iexact Hr
  iframe HO HX HW HE HG HB HS HA HC HM HR

theorem accW : St m K c x y w e g b s f a n z R ⊢ iprop(recs m K ∗ ow c g s ∗ fW m c w ∗ R ∗ (ow c g s -∗ fW m c w' -∗ R' -∗ St m K c x y w' e g b s f a n z R')) := by
  unfold St ow
  iintro ⟨Hr, HO, HX, HW, HE, HG, HB, HS, HA, HC, HM, HR⟩
  icases Hr with #Hr
  isplitr; · iexact Hr
  iframe HO HW HR
  iintro HO HW HR
  isplitr; · iexact Hr
  iframe HO HX HW HE HG HB HS HA HC HM HR

theorem accE : St m K c x y w e g b s f a n z R ⊢ iprop(recs m K ∗ ow c g s ∗ fE m c e ∗ R ∗ (ow c g s -∗ fE m c e' -∗ R' -∗ St m K c x y w e' g b s f a n z R')) := by
  unfold St ow
  iintro ⟨Hr, HO, HX, HW, HE, HG, HB, HS, HA, HC, HM, HR⟩
  icases Hr with #Hr
  isplitr; · iexact Hr
  iframe HO HE HR
  iintro HO HE HR
  isplitr; · iexact Hr
  iframe HO HX HW HE HG HB HS HA HC HM HR

theorem accG (d : Fin 3) {u v : ℕ} (h : σG g d = u ∧ σG g' d = v ∧ ∀ j, j ≠ d → σG g' j = σG g j) :
    St m K c x y w e g b s f a n z R ⊢ iprop(recs m K ∗ ow c g s ∗ fG m c d u ∗ R ∗ (ow c g' s -∗ fG m c d v -∗ R' -∗ St m K c x y w e g' b s f a n z R')) := by
  unfold St ow
  iintro ⟨Hr, HO, HX, HW, HE, HG, HB, HS, HA, HC, HM, HR⟩
  ihave HG := (fam_step (fG m c) d u v h.1 h.2.1 h.2.2) $$ HG
  icases HG with ⟨Hq, HG⟩
  icases Hr with #Hr
  isplitr; · iexact Hr
  iframe HO Hq HR
  iintro HO Hq HR
  ihave HG := HG $$ Hq
  isplitr; · iexact Hr
  iframe HO HX HW HE HG HB HS HA HC HM HR

theorem accS (i : Fin 44) {u v : ℕ} (h : σS b s f i = u ∧ σS b s' f' i = v ∧ ∀ j, j ≠ i → σS b s' f' j = σS b s f j) :
    St m K c x y w e g b s f a n z R ⊢ iprop(recs m K ∗ ow c g s ∗ fS m c i u ∗ R ∗ (ow c g s' -∗ fS m c i v -∗ R' -∗ St m K c x y w e g b s' f' a n z R')) := by
  unfold St ow
  iintro ⟨Hr, HO, HX, HW, HE, HG, HB, HS, HA, HC, HM, HR⟩
  ihave HS := (fam_step (fS m c) i u v h.1 h.2.1 h.2.2) $$ HS
  icases HS with ⟨Hq, HS⟩
  icases Hr with #Hr
  isplitr; · iexact Hr
  iframe HO Hq HR
  iintro HO Hq HR
  ihave HS := HS $$ Hq
  isplitr; · iexact Hr
  iframe HO HX HW HE HG HB HS HA HC HM HR

theorem accA (p : Fin 48) {u v : ℕ} (h : σA a p = u ∧ σA a' p = v ∧ ∀ j, j ≠ p → σA a' j = σA a j) :
    St m K c x y w e g b s f a n z R ⊢ iprop(recs m K ∗ ow c g s ∗ fA m c p u ∗ R ∗ (ow c g s -∗ fA m c p v -∗ R' -∗ St m K c x y w e g b s f a' n z R')) := by
  unfold St ow
  iintro ⟨Hr, HO, HX, HW, HE, HG, HB, HS, HA, HC, HM, HR⟩
  ihave HA := (fam_step (fA m c) p u v h.1 h.2.1 h.2.2) $$ HA
  icases HA with ⟨Hq, HA⟩
  icases Hr with #Hr
  isplitr; · iexact Hr
  iframe HO Hq HR
  iintro HO Hq HR
  ihave HA := HA $$ Hq
  isplitr; · iexact Hr
  iframe HO HX HW HE HG HB HS HA HC HM HR

theorem accC (p : Fin 48) {u v : ℕ} (h : σC n z p = u ∧ σC n' z' p = v ∧ ∀ j, j ≠ p → σC n' z' j = σC n z j) :
    St m K c x y w e g b s f a n z R ⊢ iprop(recs m K ∗ ow c g s ∗ fC m c p u ∗ R ∗ (ow c g s -∗ fC m c p v -∗ R' -∗ St m K c x y w e g b s f a n' z' R')) := by
  unfold St ow
  iintro ⟨Hr, HO, HX, HW, HE, HG, HB, HS, HA, HC, HM, HR⟩
  ihave HC := (fam_step (fC m c) p u v h.1 h.2.1 h.2.2) $$ HC
  icases HC with ⟨Hq, HC⟩
  icases Hr with #Hr
  isplitr; · iexact Hr
  iframe HO Hq HR
  iintro HO Hq HR
  ihave HC := HC $$ Hq
  isplitr; · iexact Hr
  iframe HO HX HW HE HG HB HS HA HC HM HR

theorem accB : St m K c x y w e g b s f a n z R ⊢ iprop(recs m K ∗ ow c g s ∗ fB c b ∗ fam (fS m c) (σS b s f)
    ∗ (ow c g s -∗ fB c b' -∗ fam (fS m c) (σS b' s f) -∗ St m K c x y w e g b' s f a n z R)) := by
  unfold St ow
  iintro ⟨#Hr, HO, HX, HW, HE, HG, HB, HS, HA, HC, HM, HR⟩
  isplitr; · iexact Hr
  iframe HO HB HS
  iintro HO HB HS
  isplitr; · iexact Hr
  iframe HO HX HW HE HG HB HS HA HC HM HR

theorem accM : St m K c x y w e g b s f a n z R ⊢ iprop(SM m c ∗ (SM m c -∗ St m K c x y w e g b s f a n z R)) := by
  unfold St
  iintro ⟨#Hr, HO, HX, HW, HE, HG, HB, HS, HA, HC, HM, HR⟩
  iframe HM
  iintro HM
  isplitr; · iexact Hr
  iframe HO HX HW HE HG HB HS HA HC HM HR

/-! ## Starting the loads -/

theorem σX_start (hx : x < 4) (hy : y ≤ x) : σX x y (xord ⟨x, hx⟩) = 0 ∧ σX (x + 1) y (xord ⟨x, hx⟩) = 1
    ∧ ∀ q, q ≠ xord ⟨x, hx⟩ → σX (x + 1) y q = σX x y q := by
  unfold σX thr
  rw [xord_xord]
  refine ⟨by simp only; split_ifs <;> omega, by simp only; split_ifs <;> omega, fun q hq => ?_⟩
  have : (xord q).val ≠ x := fun h => hq (by rw [← xord_xord q]; exact congrArg xord (Fin.ext h))
  split_ifs <;> omega
theorem σX_wait (hy : y < 4) (hx : y < x) : σX x y (xord ⟨y, hy⟩) = 1 ∧ σX x (y + 1) (xord ⟨y, hy⟩) = 2
    ∧ ∀ q, q ≠ xord ⟨y, hy⟩ → σX x (y + 1) q = σX x y q := by
  unfold σX thr
  rw [xord_xord]
  refine ⟨by simp only; split_ifs <;> omega, by simp only; split_ifs <;> omega, fun q hq => ?_⟩
  have : (xord q).val ≠ y := fun h => hq (by rw [← xord_xord q]; exact congrArg xord (Fin.ext h))
  split_ifs <;> omega

theorem dmem (k : Unit ⊕ Fin 4 ⊕ Fin 44 ⊕ Fin 44 ⊕ Fin 48) (c : Dev nD) : (0 : Fin 3) ∈ (Rd (F := F) m).duties (kcell (c, .inr k)) 0 := by
  rw [duties_k]; exact Finset.mem_singleton_self _

/-- Start the load of the next quarter of the device's rows. -/
theorem st_xstart (hx : x < 4) (hy : y ≤ x) (hx' : x + 1 = x') {off : Fin 2 → ℕ} (ho : off = ![128 * (xord ⟨x, hx⟩).val, 0])
    {inb : ∀ a, off a + S128x4096.size a ≤ S512x4096.size a} {hc hc'} {sem : DmaSem sig} (hsem : sem = dsem (.inr (.inl (xord ⟨x, hx⟩))))
    {hsrc hdst htt} {k : PUnit → TP F α} (h : St m K c x' y w e g b s f a n z R ⊢ W1 c (k ⟨⟩) Q) :
    St m K c x y w e g b s f a n z R ⊢ W1 c (.op (.enqueueDma (xhM.slice (Rect.unit (s := S512x4096) off S128x4096.size inb) hc)
      (.here (xfM.slice (Rect.unit (s := S512x4096) off S128x4096.size inb) hc')) (.dma sem) hsrc hdst htt) k) Q := by
  subst hx'
  have hσ := σX_start hx hy
  generalize xord ⟨x, hx⟩ = q at *
  subst hsem
  iintro H
  ihave H := (accX m K c (R' := R) q hσ) $$ H
  icases H with ⟨#Hr, HO, Hq, HR, H⟩
  ihave Hq := (Entails.of_eq (show fX m c q 0 = iprop(xhP m c q ∗ xfU c q ∗ tk (c, kX q) 0 ∗ ps (c, kX q)) from rfl)) $$ Hq
  unfold xfU xhP
  icases Hq with ⟨Hh, ⟨%f0, Hf⟩, Ht, Hp⟩
  ihave Hh := (pt_set (xh_view_set ho inb hc).symm) $$ Hh
  ihave Hf := (pt_set (xf_view_set ho inb hc').symm) $$ Hf
  iapply (Rounds.wp_copy_pointsTo 𝒱₀ ER (Rd m) (c : Thread nD τ) none (κ := K (c, kX q)) (sem := csem (kX q)) (r := 0) (d := 0)
    (src := xhM.slice (Rect.unit (s := S512x4096) off S128x4096.size inb) hc) (dst := xfM.slice (Rect.unit (s := S512x4096) off S128x4096.size inb) hc')
    (fs := xb m c) (fd := f0) (dmem m _ c) () crF rfl (amount_k m (c, kX q) 0)
    (by
      rw [show (Rd m).payload ((c : Thread nD τ), csem (kX q)) 0 0 = iprop(xfP m c q ∗ xhP m c q) from payload_k m (c, kX q) 0]
      unfold xfP xhP
      exact BIClass.sep_mono (pt_eqv (ℓ := lXF c) (xf_view_set ho inb hc') (xf_landed m c ho inb hc' hc f0)) (pt_set (ℓ := lX c) (xh_view_set ho inb hc)))) $$ [Hh Hf Ht]
  · isplitr; · iapply (recs_inv m K (c, kX q)); iexact Hr
    isplitl [Hh]; · iexact Hh
    isplitl [Hf]; · iexact Hf
    isplitl [Ht]; · iexact Ht
    iapply (recs_reached m K (c, kX q)); iexact Hr
  iintro Hcr
  iapply h
  iapply H $$ HO [Hcr Hp] HR
  iapply (Entails.of_eq (show iprop(cr (c, kX q) crF ∗ ps (c, kX q)) = fX m c q 1 from rfl))
  isplitl [Hcr] <;> iassumption

/-- Start the load of the columns of `w`. -/
theorem st_wstart {sem : DmaSem sig} (hsem : sem = dsem (.inl ()))
    {hsrc hdst htt} {k : PUnit → TP F α} (h : St m K c x y 1 e g b s f a n z R ⊢ W1 c (k ⟨⟩) Q) :
    St m K c x y 0 e g b s f a n z R ⊢ W1 c (.op (.enqueueDma whM (.here wfM) (.dma sem) hsrc hdst htt) k) Q := by
  subst hsem
  iintro H
  ihave H := (accW m K c (R' := R) (w' := 1)) $$ H
  icases H with ⟨#Hr, HO, Hq, HR, H⟩
  ihave Hq := (Entails.of_eq (show fW m c 0 = iprop(whP m c ∗ wfU c ∗ tk (c, kW) 0 ∗ ps (c, kW)) from rfl)) $$ Hq
  unfold wfU whP
  icases Hq with ⟨Hh, ⟨%f0, Hf⟩, Ht, Hp⟩
  ihave Hh := (pt_set (show Finset.univ = whM.view.set from (View.set_whole _).symm)) $$ Hh
  ihave Hf := (pt_set (show Finset.univ = wfM.view.set from (View.set_whole _).symm)) $$ Hf
  iapply (Rounds.wp_copy_pointsTo 𝒱₀ ER (Rd m) (c : Thread nD τ) none (κ := K (c, kW)) (sem := csem kW) (r := 0) (d := 0)
    (src := whM) (dst := wfM)
    (fs := wb m c) (fd := f0) (dmem m _ c) () crW rfl (amount_k m (c, kW) 0)
    (by
      rw [show (Rd m).payload ((c : Thread nD τ), csem kW) 0 0 = iprop(wfP m c ∗ whP m c) from payload_k m (c, kW) 0]
      unfold wfP whP
      exact BIClass.sep_mono (pt_eqv (ℓ := lWF c) (View.set_whole _) (fun i hi => write_read_self wfM.view f0 (wb m c) i (by rw [View.set_whole]; exact hi)))
        (pt_set (ℓ := lW c) (View.set_whole _)))) $$ [Hh Hf Ht]
  · isplitr; · iapply (recs_inv m K (c, kW)); iexact Hr
    isplitl [Hh]; · iexact Hh
    isplitl [Hf]; · iexact Hf
    isplitl [Ht]; · iexact Ht
    iapply (recs_reached m K (c, kW)); iexact Hr
  iintro Hcr
  iapply h
  iapply H $$ HO [Hcr Hp] HR
  iapply (Entails.of_eq (show iprop(cr (c, kW) crW ∗ ps (c, kW)) = fW m c 1 from rfl))
  isplitl [Hcr] <;> iassumption

/-! ## The barrier -/

/-- Signal the device that sends to this one in direction `g`, handing it the rows its wires will write. -/
theorem st_signal (hg : g < 3) (hg' : g + 1 = g') {d : Dev nD} (hd : d = (dirE ⟨g, hg⟩).symm c) {sem : Sem sig} (hsem : sem = barS)
    {k : PUnit → TP F α} (h : St m K c x y w e g' b s f a n z R ⊢ W1 c (k ⟨⟩) Q) :
    St m K c x y w e g b s f a n z R ⊢ W1 c (.op (.semSignal (d, .tc) sem 1) k) Q := by
  subst hg' hd hsem
  have hσ : σG g ⟨g, hg⟩ = 0 ∧ σG (g + 1) ⟨g, hg⟩ = 1 ∧ ∀ j, j ≠ ⟨g, hg⟩ → σG (g + 1) j = σG g j := by
    unfold σG thr
    refine ⟨by simp only; split_ifs <;> omega, by simp only; split_ifs <;> omega, fun q hq => ?_⟩
    have : q.val ≠ g := fun h => hq (Fin.ext h)
    split_ifs <;> omega
  have hO : owed c g s = owed c (g + 1) s + tallyAt (kcell ((dirE ⟨g, hg⟩).symm c, kBar)) () 1 := by
    unfold owed
    rw [add_assoc]; congr 1
    match g, hg with
    | 0, _ => rfl
    | 1, _ => rfl
    | 2, _ => exact (zero_add _).symm
  generalize (⟨g, hg⟩ : Fin 3) = d at *
  iintro H
  ihave H := (accG m K c (R' := R) d hσ) $$ H
  icases H with ⟨#Hr, HO, Hq, HR, H⟩
  ihave Hq := (Entails.of_eq (show fG m c d 0 = iprop(tk ((dirE d).symm c, kBar) d ∗ pay m ((dirE d).symm c) d kBar) from rfl)) $$ Hq
  unfold ow
  icases HO with ⟨%W, HO⟩
  icases Hq with ⟨Ht, Hp⟩
  iapply (Rounds.wp_signal 𝒱₀ ER (Rd m) (c : Thread nD τ) none (dst := ((dirE d).symm c : Thread nD τ)) (sem := barS) (r := 0) (d := d) (k' := 1) (κ := K ((dirE d).symm c, kBar))
    (by rw [show (Rd m).duties (((dirE d).symm c : Thread nD τ), .reg barS) 0 = Finset.univ from duties_k m ((dirE d).symm c, kBar)]; exact Finset.mem_univ _)
    (amount_k m ((dirE d).symm c, kBar) d) () (owed c (g + 1) s) hO (W := W)) $$ [HO Ht Hp]
  · isplitr; · iapply (recs_inv m K ((dirE d).symm c, kBar)); iexact Hr
    isplitl [HO]; · iexact HO
    isplitl [Ht]; · iexact Ht
    isplitl [Hp]; · iapply (Entails.of_eq (show pay m ((dirE d).symm c) d kBar = (Rd m).payload (((dirE d).symm c : Thread nD τ), .reg barS) 0 d from (payload_k m ((dirE d).symm c, kBar) d).symm)); iexact Hp
    iapply (recs_reached m K ((dirE d).symm c, kBar)); iexact Hr
  iintro HO
  iapply h
  iapply H $$ [HO] [] HR
  · iexists _; iexact HO
  · iapply (Entails.of_eq (show iprop(emp) = fG m c d 1 from rfl)); iempintro

/-- A product, grouped by the value of a function. -/
theorem fiber {I J : Type} [Fintype I] [DecidableEq I] [Fintype J] [DecidableEq J] (g : I → J) (Φ : I → sProp (MT nD τ sig Unit (Elt F) ℕ UU ℕ)) :
    bigSep Finset.univ Φ = bigSep Finset.univ fun j => bigSep (Finset.univ.filter fun i => g i = j) Φ := by
  have h : (Finset.univ : Finset I) = Finset.univ.biUnion fun j => Finset.univ.filter fun i => g i = j := by
    ext i; simp
  conv_lhs => rw [h]
  exact bigSep_biUnion_eq _ _ _ fun j _ j' _ hne =>
    Finset.disjoint_filter.mpr fun i _ hi hi' => hne (hi.symm.trans hi')

theorem σS_bar (x : Fin 44) : σS 0 0 0 x = 0 ∧ σS 1 0 0 x = 1 := by
  unfold σS thr; simp

/-- The three signals are in: the rows of the other devices this device writes are its own. -/
theorem st_barrier (hg : 3 ≤ g) {sem : Sem sig} (hsem : sem = barS)
    {k : PUnit → TP F α} (h : St m K c x y w e g 1 0 0 a n z R ⊢ W1 c (k ⟨⟩) Q) :
    St m K c x y w e g 0 0 0 a n z R ⊢ W1 c (.op (.semWait sem 3) k) Q := by
  subst hsem
  iintro H
  ihave H := (accB m K c (b' := 1)) $$ H
  icases H with ⟨#Hr, HO, HB, HS, H⟩
  ihave HB := (Entails.of_eq (show fB (F := F) c 0 = iprop(cr (c, kBar) 3 ∗ ps (c, kBar)) from rfl)) $$ HB
  unfold ow
  icases HO with ⟨%W, HO⟩
  icases HB with ⟨HC, HP⟩
  iapply (Rounds.wp_wait_rest_token 𝒱₀ ER (Rd m) (c : Thread nD τ) none (κ := K (c, kBar)) (sm := .reg barS)
      (wpE_semWait_eq 𝒱₀ (c : Thread nD τ) none Set.univ) (Set.mem_univ _) () (O := owed c g 0) (W := W) (R := 0) (m := 0) (T := ∅)
      ((Nat.zero_add _).trans (expect_bar m c).symm)) $$ [HO HC HP]
  · isplitr; · iapply (recs_inv m K (c, kBar)); iexact Hr
    isplitl [HC]; · iexact HC
    isplitl [HO]; · iexact HO
    isplitr; · iapply (mayWait_lv c kBar 0 g hg (by decide)); iapply (recs_lev m K); iexact Hr
    iexact HP
  iintro ⟨HO, HP, -, Hpay⟩
  ihave Hpay := (Entails.of_eq (show bigSep ((Rd (F := F) m).duties ((c : Thread nD τ), .reg barS) 0 \ ∅) (fun d => (Rd (F := F) m).payload ((c : Thread nD τ), .reg barS) 0 d)
      = bigSep Finset.univ fun d : Fin 3 => bigSep (Finset.univ.filter fun x : Fin 44 => wdir x = d) fun x => (dstU c x : sProp 𝕄) from rest_bar m c)) $$ Hpay
  imod (Rounds.cell_close ER (Rd m) (Set.mem_univ (K (c, kBar))) (fun h => h) (R := 0 + 1) (duties_later m (c, kBar))) $$ [HP] with HZ
  · isplitr; · iapply (recs_inv m K (c, kBar)); iexact Hr
    iexact HP
  iapply h
  iapply H $$ [HO] [HZ] [HS Hpay]
  · iexists _; iexact HO
  · iapply (Entails.of_eq (show zs (c, kBar) = fB (F := F) c 1 from rfl)); iexact HZ
  · iapply (show iprop(fam (fS m c) (σS 0 0 0) ∗ bigSep Finset.univ fun d : Fin 3 => bigSep (Finset.univ.filter fun x : Fin 44 => wdir x = d) fun x => (dstU c x : sProp 𝕄))
        ⊢ fam (fS m c) (σS 1 0 0) from by
      unfold fam
      rw [← fiber wdir]
      refine (Entails.of_eq (bigSep_sep (Finset.univ : Finset (Fin 44)) (fun x => fS m c x (σS 0 0 0 x)) (fun x => (dstU c x : sProp 𝕄))).symm).trans (bigSep_mono fun x _ => ?_)
      rw [(σS_bar x).1, (σS_bar x).2]
      show iprop((tk (c, kS x) 0 ∗ ps (c, kS x) ∗ tk (wdst c x, kR x) 0) ∗ dstU c x) ⊢ iprop(dstU c x ∗ tk (c, kS x) 0 ∗ ps (c, kS x) ∗ tk (wdst c x, kR x) 0)
      iintro ⟨⟨H1, H2, H3⟩, H4⟩
      iframe H4 H1 H2 H3)
    isplitl [HS] <;> iassumption

/-! ## The scales -/

theorem st_sx {r : Rect S1} {hl} {k : (r.shape.Idx → Elt F .f32) → TP F α}
    (h : St m K c x y w e g b s f a n z R ⊢ W1 c (k (sxM.view.readAt (Elt F) r.toLoadRect (sxb m c))) Q) :
    St m K c x y w e g b s f a n z R ⊢ W1 c (.op (.load sxM r.toLoadRect hl) k) Q := by
  iintro H
  ihave H := (accM m K c) $$ H
  unfold SM
  icases H with ⟨⟨H1, H2⟩, H⟩
  iapply (wp_load 𝒱₀ (c : Thread nD τ) none Set.univ (m := sxM) (S := Finset.univ) (Finset.subset_univ _)) $$ H1
  iintro H1
  iapply h
  iapply H
  isplitl [H1] <;> iassumption
theorem st_sw {r : Rect S1} {hl} {k : (r.shape.Idx → Elt F .f32) → TP F α}
    (h : St m K c x y w e g b s f a n z R ⊢ W1 c (k (swM.view.readAt (Elt F) r.toLoadRect (swb m c))) Q) :
    St m K c x y w e g b s f a n z R ⊢ W1 c (.op (.load swM r.toLoadRect hl) k) Q := by
  iintro H
  ihave H := (accM m K c) $$ H
  unfold SM
  icases H with ⟨⟨H1, H2⟩, H⟩
  iapply (wp_load 𝒱₀ (c : Thread nD τ) none Set.univ (m := swM) (S := Finset.univ) (Finset.subset_univ _)) $$ H2
  iintro H2
  iapply h
  iapply H
  isplitl [H1] <;> iassumption

end Cert.GatherProof

end
-- ==== Proof.StepsB.lean ====
/-
# The device's steps: casting its rows, sending, casting `w`

The share of a row that is cast or arrives is split: the wires that read it borrow the left, the rest stays for the product.
-/
module

public import proofs.«01_k».proof.Proof.StepsA

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}
variable {α : Type} {Q : α → sProp (MT nD τ sig Unit (Elt F) ℕ UU ℕ)}

variable {x' y' w' e' g' b' s' f' a' n' z' : ℕ} {R' : sProp (MT nD τ sig Unit (Elt F) ℕ UU ℕ)}

/-! ## The device's own rows -/

/-- The next quarter landed. -/
theorem st_xwait (hy : y < 4) (hx : y < x) (hy' : y + 1 = y') {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inl (xord ⟨y, hy⟩))))
    (ha : dst.view.dmaCredit = crF) {k : PUnit → TP F α} (h : St m K c x y' w e g b s f a n z R ⊢ W1 c (k ⟨⟩) Q) :
    St m K c x y w e g b s f a n z R ⊢ W1 c (.op (.waitDma2 sem src dst hsrc hdst) k) Q := by
  subst hy'
  have hσ := σX_wait hy hx
  generalize xord ⟨y, hy⟩ = q at *
  iintro H
  ihave H := (accX m K c (R' := R) q hσ) $$ H
  icases H with ⟨#Hr, HO, Hq, HR, H⟩
  ihave Hq := (Entails.of_eq (show fX m c q 1 = iprop(cr (c, kX q) crF ∗ ps (c, kX q)) from rfl)) $$ Hq
  unfold ow
  icases HO with ⟨%W, HO⟩
  icases Hq with ⟨HC, HP⟩
  iapply (wait_k m K c (.inr (.inl q)) (mayWait_low c _ (lv_k (c, kX q) ()) g s) hsem ha) $$ [HO HC HP]
  · isplitr; · iexact Hr
    isplitl [HO]; · iexact HO
    isplitl [HC]; · iexact HC
    iexact HP
  iintro HO HZ Hp
  iapply h
  iapply H $$ HO [HZ Hp] HR
  ihave Hp := (Entails.of_eq (show pay m c 0 (kX q) = iprop(xfP m c q ∗ xhP m c q) from rfl)) $$ Hp
  iapply (Entails.of_eq (show iprop(zs (c, kX q) ∗ xfP m c q ∗ xhP m c q) = fX m c q 2 from rfl))
  isplitl [HZ] <;> iassumption

theorem st_wwait {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inl ()))
    (ha : dst.view.dmaCredit = crW) {k : PUnit → TP F α} (h : St m K c x y 2 e g b s f a n z R ⊢ W1 c (k ⟨⟩) Q) :
    St m K c x y 1 e g b s f a n z R ⊢ W1 c (.op (.waitDma2 sem src dst hsrc hdst) k) Q := by
  iintro H
  ihave H := (accW m K c (R' := R) (w' := 2)) $$ H
  icases H with ⟨#Hr, HO, Hq, HR, H⟩
  ihave Hq := (Entails.of_eq (show fW m c 1 = iprop(cr (c, kW) crW ∗ ps (c, kW)) from rfl)) $$ Hq
  unfold ow
  icases HO with ⟨%W, HO⟩
  icases Hq with ⟨HC, HP⟩
  iapply (wait_k m K c (.inl ()) (mayWait_low c _ (lv_k (c, kW) ()) g s) hsem ha) $$ [HO HC HP]
  · isplitr; · iexact Hr
    isplitl [HO]; · iexact HO
    isplitl [HC]; · iexact HC
    iexact HP
  iintro HO HZ Hp
  iapply h
  iapply H $$ HO [HZ Hp] HR
  ihave Hp := (Entails.of_eq (show pay m c 0 kW = iprop(wfP m c ∗ whP m c) from rfl)) $$ Hp
  iapply (Entails.of_eq (show iprop(zs (c, kW) ∗ wfP m c ∗ whP m c) = fW m c 2 from rfl))
  isplitl [HZ] <;> iassumption

/-- A load of a quarter that has landed. -/
theorem st_xfload (q : Fin 4) (hq : σX x y q = 2) {off : Fin 2 → ℕ} (ho : off = ![128 * q.val, 0])
    {inb : ∀ a, off a + S128x4096.size a ≤ S512x4096.size a} {hl} {k : _ → TP F α}
    (h : St m K c x y w e g b s f a n z R
      ⊢ W1 c (k (xfM.view.readAt (Elt F) (Rect.unit (s := S512x4096) off S128x4096.size inb).toLoadRect (xb m c))) Q) :
    St m K c x y w e g b s f a n z R ⊢ W1 c (.op (.load xfM (Rect.unit (s := S512x4096) off S128x4096.size inb).toLoadRect hl) k) Q := by
  iintro H
  ihave H := (accX m K c (R' := R) (x' := x) (y' := y) q ⟨hq, hq, fun _ _ => rfl⟩) $$ H
  icases H with ⟨#Hr, HO, Hq, HR, H⟩
  ihave Hq := (Entails.of_eq (show fX m c q 2 = iprop(zs (c, kX q) ∗ xfP m c q ∗ xhP m c q) from rfl)) $$ Hq
  icases Hq with ⟨HZ, Hx, Hh⟩
  unfold xfP
  iapply (wp_load_rect 𝒱₀ (c : Thread nD τ) none Set.univ (m := xfM) (r := Rect.unit (s := S512x4096) off S128x4096.size inb)
    (S := rows 512 4096 (128 * q.val) 128) (q := fullShare) (f := xb m c) (xf_view_set ho inb (fun _ => rfl)).subset) $$ Hx
  iintro Hx
  iapply h
  iapply H $$ HO [HZ Hx Hh] HR
  iapply (Entails.of_eq (show iprop(zs (c, kX q) ∗ xfP m c q ∗ xhP m c q) = fX m c q 2 from rfl))
  isplitl [HZ]; · iexact HZ
  isplitl [Hx]; · unfold xfP; iexact Hx
  iexact Hh

theorem σA_step (p : Fin 48) (hp : arank p = a) : σA a p = 0 ∧ σA (a + 1) p = 1 ∧ ∀ j, j ≠ p → σA (a + 1) j = σA a j := by
  unfold σA thr
  refine ⟨by split_ifs <;> omega, by split_ifs <;> omega, fun q hq => ?_⟩
  have : arank q ≠ a := fun h => hq (arank_inj _ _ (h.trans hp.symm))
  split_ifs <;> omega

/-- The own piece cast at step `a`, and where it lies. -/
def own (i : Fin 4) : Fin 48 := ⟨(xord i).val, by have := (xord i).isLt; omega⟩
theorem own_facts : ∀ (c : Dev nD) (i : Fin 4), arank (own i) = i.val ∧ pch c (own i) = c.val ∧ poff (own i) = 128 * (xord i).val ∧ pnr (own i) = 128
    ∧ (own i).val < 4 ∧ ksh (own i) = (fullShare.right : PosShare TreeShare) := by
  intro c i
  have h : arank (own i) = i.val ∧ pch c (own i) = c.val ∧ poff (own i) = 128 * (xord i).val ∧ pnr (own i) = 128 ∧ (own i).val < 4 := by
    revert c i; decide +kernel
  exact ⟨h.1, h.2.1, h.2.2.1, h.2.2.2.1, h.2.2.2.2, if_pos (by omega)⟩

/-- The load of the piece's rows before the store: its value is not used. -/
theorem st_xsdead (i : Fin 4) (hi : a ≤ i.val) {off : Fin 3 → ℕ} (ho : off = ![c.val, 128 * (xord i).val, 0])
    {inb : ∀ a, off a + S1x128x4096.size a ≤ S8x512x4096.size a} {hl} {k : _ → TP F α}
    (h : ∀ v, St m K c x y w e g b s f a n z R ⊢ W1 c (k v) Q) :
    St m K c x y w e g b s f a n z R ⊢ W1 c (.op (.load xsM (Rect.unit (s := S8x512x4096) off S1x128x4096.size inb).toLoadRect hl) k) Q := by
  obtain ⟨h1, h2, h3, h4, h5, -⟩ := own_facts c i
  have hσ : σA a (own i) = 0 := by unfold σA thr; rw [h1]; split_ifs <;> omega
  iintro H
  ihave H := (accA m K c (R' := R) (own i) ⟨hσ, hσ, fun _ _ => rfl⟩) $$ H
  icases H with ⟨#Hr, HO, Hq, HR, H⟩
  ihave Hq := (Entails.of_eq (show fA m c (own i) 0 = xsU c (own i) from if_pos h5)) $$ Hq
  unfold xsU
  icases Hq with ⟨%f0, Hx⟩
  iapply (wp_load_rect 𝒱₀ (c : Thread nD τ) none Set.univ (m := xsM) (r := Rect.unit (s := S8x512x4096) off S1x128x4096.size inb)
    (S := box 4096 (pch c (own i)) (poff (own i)) (pnr (own i))) (q := fullShare) (f := f0)
    (by rw [h2, h3, h4]; exact (xs_access_set ho inb).subset)) $$ Hx
  iintro Hx
  iapply (h _)
  iapply H $$ HO [Hx] HR
  iapply (Entails.of_eq (show xsU (F := F) c (own i) = fA m c (own i) 0 from (if_pos h5).symm))
  unfold xsU
  iexists f0; iexact Hx

theorem own_wires : ∀ (i : Fin 4) (j : Fin 3), wpc ⟨3 * i.val + j.val, by omega⟩ = own i ∧ wz ⟨3 * i.val + j.val, by omega⟩ = j.val := by decide +kernel

/-- Rows split in two halves. -/
theorem box_halves (k o : ℕ) : box 4096 k o 128 = box 4096 k o 64 ∪ box 4096 k (o + 64) 64 := by
  ext i; rw [Finset.mem_union, mem_box, mem_box, mem_box]; omega

/-- What a whole own piece splits into: the shares its three wires borrow, the share that stays. -/
theorem own_split (i : Fin 4) :
    (lXS c ↦[box 4096 c.val (128 * (xord i).val) 128]{fullShare} XS m : sProp 𝕄)
      ⊣⊢ iprop((srcP m c ⟨3 * i.val, by omega⟩ ∗ srcP m c ⟨3 * i.val + 1, by omega⟩ ∗ srcP m c ⟨3 * i.val + 2, by omega⟩)
          ∗ xsP m c (own i) fullShare.right) := by
  obtain ⟨h1, h2, h3, h4, h5, -⟩ := own_facts c i
  have e0 : ∀ (j : Fin 3), srcP m c ⟨3 * i.val + j.val, by omega⟩
      = (lXS c ↦[box 4096 c.val (128 * (xord i).val + 64 * (j.val - 1)) (if j.val = 0 then 128 else 64)]{if j.val = 0 then fullShare.left.left else fullShare.left.right} XS m : sProp 𝕄) := by
    intro j
    obtain ⟨w1, w2⟩ := own_wires i j
    unfold srcP wsh wch woff wnr
    rw [w1, w2, h2, h3, h4, if_pos (show 3 * i.val + j.val < 12 by omega)]
  have s0 : srcP m c ⟨3 * i.val, by omega⟩ = (lXS c ↦[box 4096 c.val (128 * (xord i).val) 128]{fullShare.left.left} XS m : sProp 𝕄) := e0 0
  have s1 : srcP m c ⟨3 * i.val + 1, by omega⟩ = (lXS c ↦[box 4096 c.val (128 * (xord i).val) 64]{fullShare.left.right} XS m : sProp 𝕄) := e0 1
  have s2 : srcP m c ⟨3 * i.val + 2, by omega⟩ = (lXS c ↦[box 4096 c.val (128 * (xord i).val + 64) 64]{fullShare.left.right} XS m : sProp 𝕄) := e0 2
  rw [s0, s1, s2]
  unfold xsP
  rw [h2, h3, h4]
  have hd : Disjoint (box 4096 c.val (128 * (xord i).val) 64) (box 4096 c.val (128 * (xord i).val + 64) 64) := box_disjoint (.inr (.inl le_rfl))
  constructor
  · iintro H
    ihave H := (pointsTo_share (PosShare.mem_left_op_right fullShare)).1 $$ H
    icases H with ⟨HL, HR⟩
    ihave HL := (pointsTo_share (PosShare.mem_left_op_right fullShare.left)).1 $$ HL
    icases HL with ⟨HLL, HLR⟩
    ihave HLR := ((pt_set (box_halves _ _)).trans (pointsTo_union hd).1) $$ HLR
    icases HLR with ⟨H1, H2⟩
    isplitr [HR]
    · isplitl [HLL]; · iexact HLL
      isplitl [H1] <;> iassumption
    · iexact HR
  · iintro ⟨⟨HLL, H1, H2⟩, HR⟩
    iapply (pointsTo_share (PosShare.mem_left_op_right fullShare)).2
    isplitr [HR]
    · iapply (pointsTo_share (PosShare.mem_left_op_right fullShare.left)).2
      isplitl [HLL]; · iexact HLL
      iapply ((pointsTo_union hd).2.trans (pt_set (box_halves _ _).symm))
      isplitl [H1] <;> iassumption
    · iexact HR

/-- Store the next own piece, cast: its three wires may be sent. -/
theorem st_xsstore (i : Fin 4) (hi : a = i.val) (ha' : a + 1 = a') {off : Fin 3 → ℕ} (ho : off = ![c.val, 128 * (xord i).val, 0])
    {inb : ∀ a, off a + S1x128x4096.size a ≤ S8x512x4096.size a} {v : S1x128x4096.Idx → Elt F .fp8e4m3} {hx hm} {k : PUnit → TP F α}
    {off' : Fin 2 → ℕ} (ho' : off' = ![128 * (xord i).val, 0]) {inb' : ∀ a, off' a + S128x4096.size a ≤ S512x4096.size a}
    (hv : v = k0_pay2 (xfM.view.readAt (Elt F) (Rect.unit (s := S512x4096) off' S128x4096.size inb').toLoadRect (xb m c)))
    {s0 s1 s2 : Fin 44} (h0 : s0.val = 3 * i.val) (h1 : s1.val = 3 * i.val + 1) (h2 : s2.val = 3 * i.val + 2)
    (h : St m K c x y w e g b s f a' n z iprop(srcP m c s0 ∗ srcP m c s1 ∗ srcP m c s2 ∗ R) ⊢ W1 c (k ⟨⟩) Q) :
    St m K c x y w e g b s f a n z R ⊢ W1 c (.op (.store xsM (Rect.unit (s := S8x512x4096) off S1x128x4096.size inb) v Finset.univ hx hm) k) Q := by
  obtain ⟨b0, b1, b2⟩ : 3 * i.val < 44 ∧ 3 * i.val + 1 < 44 ∧ 3 * i.val + 2 < 44 := by have := i.isLt; clear h0 h1 h2; omega
  obtain rfl : s0 = ⟨3 * i.val, b0⟩ := Fin.ext h0
  obtain rfl : s1 = ⟨3 * i.val + 1, b1⟩ := Fin.ext h1
  obtain rfl : s2 = ⟨3 * i.val + 2, b2⟩ := Fin.ext h2
  subst hi ha' hv
  obtain ⟨q1, q2, q3, q4, q5, q6⟩ := own_facts c i
  iintro H
  ihave H := (accA m K c (R' := iprop(srcP m c ⟨3 * i.val, by omega⟩ ∗ srcP m c ⟨3 * i.val + 1, by omega⟩ ∗ srcP m c ⟨3 * i.val + 2, by omega⟩ ∗ R)) (own i) (σA_step (own i) q1)) $$ H
  icases H with ⟨#Hr, HO, Hq, HR, H⟩
  ihave Hq := (Entails.of_eq (show fA m c (own i) 0 = xsU c (own i) from if_pos q5)) $$ Hq
  unfold xsU
  icases Hq with ⟨%f0, Hx⟩
  ihave Hx := (pt_set (show box 4096 (pch c (own i)) (poff (own i)) (pnr (own i)) = (xsM.access (Rect.unit (s := S8x512x4096) off S1x128x4096.size inb)).set by
    rw [q2, q3, q4]; exact (xs_access_set ho inb).symm)) $$ Hx
  iapply (wp_store 𝒱₀ (c : Thread nD τ) none Set.univ (m := xsM) (r := Rect.unit (s := S8x512x4096) off S1x128x4096.size inb) (Mk := Finset.univ)
    (S := (xsM.access (Rect.unit (s := S8x512x4096) off S1x128x4096.size inb)).set) (f := f0) subset_rfl) $$ Hx
  iintro Hx
  iapply h
  ihave Hx := (pt_eqv (ℓ := lXS c) (xs_access_set ho inb) (xs_write m c ho inb ho' inb' f0)) $$ Hx
  ihave Hx := (own_split m c i).1 $$ Hx
  icases Hx with ⟨⟨H0, H1, H2⟩, Hk⟩
  iapply H $$ HO [Hk] [H0 H1 H2 HR]
  · iapply (Entails.of_eq (show xsP m c (own i) fullShare.right = fA m c (own i) 1 from by rw [← q6]; exact (if_pos q5).symm)); iexact Hk
  · iframe H0 H1 H2 HR

/-! ## Sends -/

theorem σS_send (s : ℕ) (hs : s < 44) : σS 1 s 0 ⟨s, hs⟩ = 1 ∧ σS 1 (s + 1) 0 ⟨s, hs⟩ = 2 ∧ ∀ j, j ≠ ⟨s, hs⟩ → σS 1 (s + 1) 0 j = σS 1 s 0 j := by
  unfold σS thr
  refine ⟨by simp, by simp, fun q hq => ?_⟩
  have : q.val ≠ s := fun h => hq (Fin.ext h)
  simp only [Nat.not_lt_zero, if_false]
  split_ifs <;> omega

/-- Send the next wire: the rows go to the same place of the peer's buffer. -/
theorem st_send (hg : 3 ≤ g) (hs : s < 44) (hs' : s + 1 = s') {nr : ℕ} (hnr : nr = wnr ⟨s, hs⟩) {d : Dev nD} (hd : d = wdst c ⟨s, hs⟩)
    {off : Fin 3 → ℕ} (ho : off = ![wch c ⟨s, hs⟩, woff ⟨s, hs⟩, 0])
    {inb inb' : ∀ a, off a + (⟨3, ![1, nr, 4096]⟩ : Shape).size a ≤ S8x512x4096.size a} {hc hc' hq hq'} {sS sem : DmaSem sig}
    (hsS : sS = dsem (.inr (.inr (.inl ⟨s, hs⟩)))) (hsem : sem = dsem (.inr (.inr (.inr (.inl ⟨s, hs⟩)))))
    {hsc hsrc hdst htt} {k : PUnit → TP F α} (h : St m K c x y w e g 1 s' 0 a n z R ⊢ W1 c (k ⟨⟩) Q) :
    St m K c x y w e g 1 s 0 a n z iprop(srcP m c ⟨s, hs⟩ ∗ R) ⊢ W1 c (.op (.enqueueDma
      ((xsM.slice (Rect.unit (s := S8x512x4096) off (⟨3, ![1, nr, 4096]⟩ : Shape).size inb) hc).squeeze ⟨2, ![nr, 4096]⟩ hq)
      (.remote (Dev.tc d) ((xsM.slice (Rect.unit (s := S8x512x4096) off (⟨3, ![1, nr, 4096]⟩ : Shape).size inb') hc').squeeze ⟨2, ![nr, 4096]⟩ hq') (.dma sS) hsc)
      (.dma sem) hsrc hdst htt) k) Q := by
  subst hs' hsS hsem hd
  have hσ := σS_send s hs
  have hO : owed c g s = owed c g (s + 1) + tallyAt (kcell (wdst c ⟨s, hs⟩, kR ⟨s, hs⟩)) () (crX (wnr ⟨s, hs⟩)) := by
    unfold owed; rw [owedW_step c s hs]; exact add_right_comm _ _ _
  generalize (⟨s, hs⟩ : Fin 44) = i at *
  subst hnr
  iintro H
  ihave H := (accS m K c (R' := R) i hσ) $$ H
  icases H with ⟨#Hr, HO, Hq, ⟨Hs, HR⟩, H⟩
  ihave Hq := (Entails.of_eq (show fS m c i 1 = iprop(dstU c i ∗ tk (c, kS i) 0 ∗ ps (c, kS i) ∗ tk (wdst c i, kR i) 0) from rfl)) $$ Hq
  unfold ow dstU srcP
  icases HO with ⟨%W, HO⟩
  icases Hq with ⟨⟨%f0, Hd⟩, Ht, Hp, Ht'⟩
  ihave Hs := (pt_set (xs_view_set ho inb hc hq).symm) $$ Hs
  ihave Hd := (pt_set (xs_view_set ho inb' hc' hq').symm) $$ Hd
  iapply (Rounds.wp_send_pointsTo 𝒱₀ ER (Rd m) (c : Thread nD τ) none (c' := Dev.tc (wdst c i)) (κ₁ := K (c, kS i)) (κ₂ := K (wdst c i, kR i))
    (sS := csem (kS i)) (sem := csem (kR i)) (r₁ := 0) (r₂ := 0) (d₁ := 0) (d₂ := 0)
    (src := (xsM.slice (Rect.unit (s := S8x512x4096) off (⟨3, ![1, wnr i, 4096]⟩ : Shape).size inb) hc).squeeze ⟨2, ![wnr i, 4096]⟩ hq)
    (dst := (xsM.slice (Rect.unit (s := S8x512x4096) off (⟨3, ![1, wnr i, 4096]⟩ : Shape).size inb') hc').squeeze ⟨2, ![wnr i, 4096]⟩ hq')
    (fs := XS m) (fd := f0) (dmem m _ c) (dmem m _ (wdst c i)) () () (crX (wnr i)) rfl (amount_k m (c, kS i) 0) (amount_k m (wdst c i, kR i) 0)
    (owed c g (s + 1)) hO (W := W)
    (by
      rw [show (Rd m).payload ((c : Thread nD τ), csem (kS i)) 0 0 = srcP m c i from payload_k m (c, kS i) 0]
      unfold srcP
      exact pt_set (ℓ := lXS c) (xs_view_set ho inb hc hq))
    (by
      rw [show (Rd m).payload ((wdst c i : Thread nD τ), csem (kR i)) 0 0 = xsP m (wdst c i) (wsuc i) fullShare from payload_k m (wdst c i, kR i) 0]
      unfold xsP
      rw [land_ch, land_off, land_nr]
      exact pt_eqv (ℓ := lXS (wdst c i)) (xs_view_set ho inb' hc' hq') (fun j hj => write_read_self
        ((xsM.slice (Rect.unit (s := S8x512x4096) off (⟨3, ![1, wnr i, 4096]⟩ : Shape).size inb') hc').squeeze ⟨2, ![wnr i, 4096]⟩ hq').view
        f0 (XS m) j (by rw [xs_view_set ho inb' hc' hq']; exact hj)))) $$ [Hs Hd HO Ht Ht']
  · isplitr; · iapply (recs_inv m K (c, kS i)); iexact Hr
    isplitr; · iapply (recs_inv m K (wdst c i, kR i)); iexact Hr
    isplitl [Hs]; · iexact Hs
    isplitl [Hd]; · iexact Hd
    isplitl [HO]; · iexact HO
    isplitl [Ht]; · iexact Ht
    isplitr; · iapply (recs_reached m K (c, kS i)); iexact Hr
    isplitl [Ht']; · iexact Ht'
    iapply (recs_reached m K (wdst c i, kR i)); iexact Hr
  iintro ⟨Hcr, HO⟩
  iapply h
  iapply H $$ [HO] [Hcr Hp] HR
  · iexists _; iexact HO
  iapply (Entails.of_eq (show iprop(cr (c, kS i) (crX (wnr i)) ∗ ps (c, kS i)) = fS m c i 2 from rfl))
  isplitl [Hcr] <;> iassumption

/-! ## The columns of `w`, cast -/

theorem st_wfload {off : Fin 2 → ℕ} (hz : off = fun _ => 0) {inb : ∀ a, off a + S4096x256.size a ≤ S4096x256.size a} {hl} {k : _ → TP F α}
    (h : St m K c x y 2 e g b s f a n z R ⊢ W1 c (k (wb m c)) Q) :
    St m K c x y 2 e g b s f a n z R ⊢ W1 c (.op (.load wfM (Rect.unit (s := S4096x256) off S4096x256.size inb).toLoadRect hl) k) Q := by
  iintro H
  ihave H := (accW m K c (R' := R) (w' := 2)) $$ H
  icases H with ⟨#Hr, HO, Hq, HR, H⟩
  ihave Hq := (Entails.of_eq (show fW m c 2 = iprop(zs (c, kW) ∗ wfP m c ∗ whP m c) from rfl)) $$ Hq
  icases Hq with ⟨HZ, Hx, Hh⟩
  unfold wfP
  iapply (wp_load 𝒱₀ (c : Thread nD τ) none Set.univ (m := wfM) (S := Finset.univ) (q := fullShare) (f := wb m c) (Finset.subset_univ _)) $$ Hx
  iintro Hx
  rw [show wfM.view.readAt (Elt F) (Rect.unit (s := S4096x256) off S4096x256.size inb).toLoadRect (wb m c) = wb m c from
    Memref.readAt_unit_zero (Elt F) cc0_scratch2 hz _ (wb m c)]
  iapply h
  iapply H $$ HO [HZ Hx Hh] HR
  iapply (Entails.of_eq (show iprop(zs (c, kW) ∗ wfP m c ∗ whP m c) = fW m c 2 from rfl))
  isplitl [HZ]; · iexact HZ
  isplitl [Hx]; · unfold wfP; iexact Hx
  iexact Hh

theorem st_w8dead {off : Fin 2 → ℕ} {inb : ∀ a, off a + S4096x256.size a ≤ S4096x256.size a} {hl} {k : _ → TP F α}
    (h : ∀ v, St m K c x y w 0 g b s f a n z R ⊢ W1 c (k v) Q) :
    St m K c x y w 0 g b s f a n z R ⊢ W1 c (.op (.load w8M (Rect.unit (s := S4096x256) off S4096x256.size inb).toLoadRect hl) k) Q := by
  iintro H
  ihave H := (accE m K c (R' := R) (e' := 0)) $$ H
  icases H with ⟨#Hr, HO, Hq, HR, H⟩
  ihave Hq := (Entails.of_eq (show fE m c 0 = iprop(∃ f : Buf (Elt F) (lW8 c), lW8 c ↦{fullShare} f) from rfl)) $$ Hq
  icases Hq with ⟨%f0, Hx⟩
  iapply (wp_load 𝒱₀ (c : Thread nD τ) none Set.univ (m := w8M) (S := Finset.univ) (q := fullShare) (f := f0) (Finset.subset_univ _)) $$ Hx
  iintro Hx
  iapply (h _)
  iapply H $$ HO [Hx] HR
  iapply (Entails.of_eq (show iprop(∃ f : Buf (Elt F) (lW8 c), lW8 c ↦{fullShare} f) = fE m c 0 from rfl))
  iexists f0; iexact Hx

theorem st_w8store {off : Fin 2 → ℕ} (hz : off = fun _ => 0) {inb : ∀ a, off a + S4096x256.size a ≤ S4096x256.size a} {v : S4096x256.Idx → Elt F .fp8e5m2}
    (hv : v = W8 m c) {hx hm} {k : PUnit → TP F α} (h : St m K c x y w 1 g b s f a n z R ⊢ W1 c (k ⟨⟩) Q) :
    St m K c x y w 0 g b s f a n z R ⊢ W1 c (.op (.store w8M (Rect.unit (s := S4096x256) off S4096x256.size inb) v Finset.univ hx hm) k) Q := by
  subst hv
  iintro H
  ihave H := (accE m K c (R' := R) (e' := 1)) $$ H
  icases H with ⟨#Hr, HO, Hq, HR, H⟩
  ihave Hq := (Entails.of_eq (show fE m c 0 = iprop(∃ f : Buf (Elt F) (lW8 c), lW8 c ↦{fullShare} f) from rfl)) $$ Hq
  icases Hq with ⟨%f0, Hx⟩
  iapply (wp_store 𝒱₀ (c : Thread nD τ) none Set.univ (m := w8M) (r := Rect.unit (s := S4096x256) off S4096x256.size inb) (Mk := Finset.univ)
    (S := Finset.univ) (f := f0) (Finset.subset_univ _)) $$ Hx
  iintro Hx
  rw [show (w8M.access (Rect.unit (s := S4096x256) off S4096x256.size inb)).write (Elt F) f0 (W8 m c) Finset.univ = W8 m c from
    Memref.write_access_unit_zero_univ (Elt F) cc0_scratch3 hz _ f0 (W8 m c)]
  iapply h
  iapply H $$ HO [Hx] HR
  iapply (Entails.of_eq (show (lW8 c ↦{fullShare} W8 m c : sProp 𝕄) = fE m c 1 from rfl))
  iexact Hx

theorem st_w8load {off : Fin 2 → ℕ} (hz : off = fun _ => 0) {inb : ∀ a, off a + S4096x256.size a ≤ S4096x256.size a} {hl} {k : _ → TP F α}
    (h : St m K c x y w 1 g b s f a n z R ⊢ W1 c (k (W8 m c)) Q) :
    St m K c x y w 1 g b s f a n z R ⊢ W1 c (.op (.load w8M (Rect.unit (s := S4096x256) off S4096x256.size inb).toLoadRect hl) k) Q := by
  iintro H
  ihave H := (accE m K c (R' := R) (e' := 1)) $$ H
  icases H with ⟨#Hr, HO, Hq, HR, H⟩
  ihave Hq := (Entails.of_eq (show fE m c 1 = (lW8 c ↦{fullShare} W8 m c : sProp 𝕄) from rfl)) $$ Hq
  iapply (wp_load 𝒱₀ (c : Thread nD τ) none Set.univ (m := w8M) (S := Finset.univ) (q := fullShare) (f := W8 m c) (Finset.subset_univ _)) $$ Hq
  iintro Hx
  rw [show w8M.view.readAt (Elt F) (Rect.unit (s := S4096x256) off S4096x256.size inb).toLoadRect (W8 m c) = W8 m c from
    Memref.readAt_unit_zero (Elt F) cc0_scratch3 hz _ (W8 m c)]
  iapply h
  iapply H $$ HO [Hx] HR
  iapply (Entails.of_eq (show (lW8 c ↦{fullShare} W8 m c : sProp 𝕄) = fE m c 1 from rfl))
  iexact Hx

end Cert.GatherProof

end
-- ==== Proof.StepsC.lean ====
/-
# The device's steps: the products, the copies out, the arrivals, the closing waits
-/
module

public import proofs.«01_k».proof.Proof.StepsB

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}
variable {α : Type} {Q : α → sProp (MT nD τ sig Unit (Elt F) ℕ UU ℕ)}

variable {x' y' w' e' g' b' s' f' a' n' z' : ℕ} {R' : sProp (MT nD τ sig Unit (Elt F) ℕ UU ℕ)}

/-! ## Reading a piece that is there -/

/-- The share of a piece that stays, and back. -/
theorem fA_there (p : Fin 48) : fA m c p 1 ⊢ iprop(xsP m c p (ksh p) ∗ (xsP m c p (ksh p) -∗ fA m c p 1)) := by
  by_cases hp : p.val < 4
  · rw [show fA m c p 1 = xsP m c p (ksh p) from if_pos hp]
    iintro H
    isplitl [H]; · iexact H
    iintro H; iexact H
  · rw [show fA m c p 1 = iprop(zs (c, kR (wprd p)) ∗ xsP m c p (ksh p)) from if_neg hp]
    iintro ⟨HZ, H⟩
    isplitl [H]; · iexact H
    iintro H
    isplitl [HZ] <;> iassumption

theorem st_xsload (p : Fin 48) (hp : arank p < a) {nr : ℕ} (hnr : nr = pnr p) {off : Fin 3 → ℕ} (ho : off = ![pch c p, poff p, 0])
    {inb : ∀ a, off a + (⟨3, ![1, nr, 4096]⟩ : Shape).size a ≤ S8x512x4096.size a} {hl} {k : _ → TP F α}
    (h : St m K c x y w e g b s f a n z R ⊢ W1 c (k (rdX m nr (pch c p) (poff p))) Q) :
    St m K c x y w e g b s f a n z R
      ⊢ W1 c (.op (.load xsM (Rect.unit (s := S8x512x4096) off (⟨3, ![1, nr, 4096]⟩ : Shape).size inb).toLoadRect hl) k) Q := by
  have hσ : σA a p = 1 := if_pos hp
  subst hnr
  iintro H
  ihave H := (accA m K c (R' := R) p ⟨hσ, hσ, fun _ _ => rfl⟩) $$ H
  icases H with ⟨#Hr, HO, Hq, HR, H⟩
  ihave Hq := (fA_there m c p) $$ Hq
  icases Hq with ⟨Hx, Hq⟩
  unfold xsP
  iapply (wp_load_rect 𝒱₀ (c : Thread nD τ) none Set.univ (m := xsM) (r := Rect.unit (s := S8x512x4096) off (⟨3, ![1, pnr p, 4096]⟩ : Shape).size inb)
    (S := box 4096 (pch c p) (poff p) (pnr p)) (q := ksh p) (f := XS m) (xs_access_set ho inb).subset) $$ Hx
  iintro Hx
  rw [show (xsM.access (Rect.unit (s := S8x512x4096) off (⟨3, ![1, pnr p, 4096]⟩ : Shape).size inb)).read (Elt F) (XS m) = rdX m (pnr p) (pch c p) (poff p) from
    xs_read m ho inb]
  iapply h
  ihave Hq := Hq $$ Hx
  iapply H $$ HO Hq HR

/-! ## The result's pieces -/

theorem σC_store (p : Fin 48) : σC (2 * p.val) 0 p = 0 ∧ σC (2 * p.val + 1) 0 p = 1 ∧ ∀ j, j ≠ p → σC (2 * p.val + 1) 0 j = σC (2 * p.val) 0 j := by
  unfold σC thr
  refine ⟨by split_ifs <;> omega, by split_ifs <;> omega, fun q hq => ?_⟩
  have : q.val ≠ p.val := fun h => hq (Fin.ext h)
  split_ifs <;> omega
theorem σC_copy (p : Fin 48) : σC (2 * p.val + 1) 0 p = 1 ∧ σC (2 * p.val + 1 + 1) 0 p = 2 ∧ ∀ j, j ≠ p → σC (2 * p.val + 1 + 1) 0 j = σC (2 * p.val + 1) 0 j := by
  unfold σC thr
  refine ⟨by split_ifs <;> omega, by split_ifs <;> omega, fun q hq => ?_⟩
  have : q.val ≠ p.val := fun h => hq (Fin.ext h)
  split_ifs <;> omega
theorem σC_wait (p : Fin 48) : σC 96 p.val p = 2 ∧ σC 96 (p.val + 1) p = 3 ∧ ∀ j, j ≠ p → σC 96 (p.val + 1) j = σC 96 p.val j := by
  have := p.isLt
  unfold σC thr
  refine ⟨by split_ifs <;> omega, by split_ifs <;> omega, fun q hq => ?_⟩
  have : q.val ≠ p.val := fun h => hq (Fin.ext h)
  split_ifs <;> omega

/-- The load of the piece before its store: its value is not used. -/
theorem st_obdead (p : Fin 48) (hn : n = 2 * p.val) {nr : ℕ} (hnr : nr = pnr p) {off : Fin 3 → ℕ} (ho : off = ![pch c p, poff p, 0])
    {inb : ∀ a, off a + (⟨3, ![1, nr, 256]⟩ : Shape).size a ≤ S8x512x256.size a} {hl} {k : _ → TP F α}
    (h : ∀ v, St m K c x y w e g b s f a n 0 R ⊢ W1 c (k v) Q) :
    St m K c x y w e g b s f a n 0 R
      ⊢ W1 c (.op (.load obM (Rect.unit (s := S8x512x256) off (⟨3, ![1, nr, 256]⟩ : Shape).size inb).toLoadRect hl) k) Q := by
  have hσ : σC n 0 p = 0 := by rw [hn]; exact (σC_store p).1
  subst hnr
  iintro H
  ihave H := (accC m K c (R' := R) p ⟨hσ, hσ, fun _ _ => rfl⟩) $$ H
  icases H with ⟨#Hr, HO, Hq, HR, H⟩
  ihave Hq := (Entails.of_eq (show fC m c p 0 = iprop(obU c p ∗ ouU c p ∗ tk (c, kC p) 0 ∗ ps (c, kC p)) from rfl)) $$ Hq
  icases Hq with ⟨Ho, Hq⟩
  unfold obU
  icases Ho with ⟨%f0, Hx⟩
  iapply (wp_load_rect 𝒱₀ (c : Thread nD τ) none Set.univ (m := obM) (r := Rect.unit (s := S8x512x256) off (⟨3, ![1, pnr p, 256]⟩ : Shape).size inb)
    (S := box 256 (pch c p) (poff p) (pnr p)) (q := fullShare) (f := f0) (ob_access_set ho inb).subset) $$ Hx
  iintro Hx
  iapply (h _)
  iapply H $$ HO [Hx Hq] HR
  iapply (Entails.of_eq (show iprop(obU c p ∗ ouU c p ∗ tk (c, kC p) 0 ∗ ps (c, kC p)) = fC m c p 0 from rfl))
  isplitl [Hx]
  · unfold obU; iexists f0; iexact Hx
  iexact Hq

/-- Store a piece of the product. -/
theorem st_obstore (p : Fin 48) (hn : n = 2 * p.val) (hn' : n + 1 = n') {nr : ℕ} (hnr : nr = pnr p) {off : Fin 3 → ℕ} (ho : off = ![pch c p, poff p, 0])
    {inb : ∀ a, off a + (⟨3, ![1, nr, 256]⟩ : Shape).size a ≤ S8x512x256.size a} {v : (⟨3, ![1, nr, 256]⟩ : Shape).Idx → Elt F .f32}
    (hv : ∀ (x : (⟨3, ![1, nr, 256]⟩ : Shape).Idx) (i : S8x512x256.Idx), (i 0).val = pch c p → (i 1).val = poff p + (x 1).val → (i 2).val = (x 2).val →
      v x = OB m c i) {hx hm} {k : PUnit → TP F α}
    (h : St m K c x y w e g b s f a n' 0 R ⊢ W1 c (k ⟨⟩) Q) :
    St m K c x y w e g b s f a n 0 R
      ⊢ W1 c (.op (.store obM (Rect.unit (s := S8x512x256) off (⟨3, ![1, nr, 256]⟩ : Shape).size inb) v Finset.univ hx hm) k) Q := by
  subst hnr hn hn'
  iintro H
  ihave H := (accC m K c (R' := R) p (σC_store p)) $$ H
  icases H with ⟨#Hr, HO, Hq, HR, H⟩
  ihave Hq := (Entails.of_eq (show fC m c p 0 = iprop(obU c p ∗ ouU c p ∗ tk (c, kC p) 0 ∗ ps (c, kC p)) from rfl)) $$ Hq
  icases Hq with ⟨Ho, Hq⟩
  unfold obU
  icases Ho with ⟨%f0, Hx⟩
  ihave Hx := (pt_set (ob_access_set ho inb).symm) $$ Hx
  iapply (wp_store 𝒱₀ (c : Thread nD τ) none Set.univ (m := obM) (r := Rect.unit (s := S8x512x256) off (⟨3, ![1, pnr p, 256]⟩ : Shape).size inb) (Mk := Finset.univ)
    (S := (obM.access (Rect.unit (s := S8x512x256) off (⟨3, ![1, pnr p, 256]⟩ : Shape).size inb)).set) (f := f0) subset_rfl) $$ Hx
  iintro Hx
  iapply h
  iapply H $$ HO [Hx Hq] HR
  iapply (Entails.of_eq (show iprop(obP m c p ∗ ouU c p ∗ tk (c, kC p) 0 ∗ ps (c, kC p)) = fC m c p 1 from rfl))
  isplitl [Hx]
  · unfold obP
    iapply (pt_eqv (ℓ := lOB c) (ob_access_set ho inb) (ob_write m c ho inb f0 v hv)); iexact Hx
  iexact Hq

/-- Such a piece, 128 rows in the device's own plane, 64 in the other. -/
theorem st_obstore128 (p : Fin 48) (hn : n = 2 * p.val) (hn' : n + 1 = n') (hnr : 128 = pnr p) {off : Fin 3 → ℕ} (ho : off = ![pch c p, poff p, 0])
    {inb : ∀ a, off a + S1x128x256.size a ≤ S8x512x256.size a} {v : S1x128x256.Idx → Elt F .f32}
    (hv : v = k0_pay7 (scl m c) (rdX m 128 (pch c p) (poff p)) (W8 m c)) {hx hm} {k : PUnit → TP F α}
    (h : St m K c x y w e g b s f a n' 0 R ⊢ W1 c (k ⟨⟩) Q) :
    St m K c x y w e g b s f a n 0 R
      ⊢ W1 c (.op (.store obM (Rect.unit (s := S8x512x256) off S1x128x256.size inb) v Finset.univ hx hm) k) Q := by
  refine st_obstore m K c p hn hn' hnr ho (fun x i h0 h1 h2 => ?_) h
  rw [hv]
  rcases piece_kind c p with ⟨k1, k2, k3⟩ | ⟨k1, -⟩
  · exact ob_val128 m c _ _ k3 k2 x i h0 h1 h2
  · omega
theorem st_obstore64 (p : Fin 48) (hn : n = 2 * p.val) (hn' : n + 1 = n') (hnr : 64 = pnr p) {off : Fin 3 → ℕ} (ho : off = ![pch c p, poff p, 0])
    {inb : ∀ a, off a + S1x64x256.size a ≤ S8x512x256.size a} {v : S1x64x256.Idx → Elt F .f32}
    (hv : v = k0_pay15 (scl m c) (rdX m 64 (pch c p) (poff p)) (W8 m c)) {hx hm} {k : PUnit → TP F α}
    (h : St m K c x y w e g b s f a n' 0 R ⊢ W1 c (k ⟨⟩) Q) :
    St m K c x y w e g b s f a n 0 R
      ⊢ W1 c (.op (.store obM (Rect.unit (s := S8x512x256) off S1x64x256.size inb) v Finset.univ hx hm) k) Q := by
  refine st_obstore m K c p hn hn' hnr ho (fun x i h0 h1 h2 => ?_) h
  rw [hv]
  rcases piece_kind c p with ⟨k1, -⟩ | ⟨k1, k2, k3⟩
  · omega
  · exact ob_val64 m c _ _ k3 k2 x i h0 h1 h2

/-- Start a finished piece's copy out. -/
theorem st_copy (p : Fin 48) (hn : n = 2 * p.val + 1) (hn' : n + 1 = n') {nr : ℕ} (hnr : nr = pnr p) {off : Fin 3 → ℕ} (ho : off = ![pch c p, poff p, 0])
    {off' : Fin 2 → ℕ} (ho' : off' = ![512 * pch c p + poff p, 0])
    {inb : ∀ a, off a + (⟨3, ![1, nr, 256]⟩ : Shape).size a ≤ S8x512x256.size a}
    {inb' : ∀ a, off' a + (⟨2, ![nr, 256]⟩ : Shape).size a ≤ S4096x256.size a} {hc hq hc'} {sem : DmaSem sig}
    (hsem : sem = dsem (.inr (.inr (.inr (.inr p))))) {hsrc hdst htt} {k : PUnit → TP F α}
    (h : St m K c x y w e g b s f a n' 0 R ⊢ W1 c (k ⟨⟩) Q) :
    St m K c x y w e g b s f a n 0 R ⊢ W1 c (.op (.enqueueDma
      ((obM.slice (Rect.unit (s := S8x512x256) off (⟨3, ![1, nr, 256]⟩ : Shape).size inb) hc).squeeze ⟨2, ![nr, 256]⟩ hq)
      (.here (ouM.slice (Rect.unit (s := S4096x256) off' (⟨2, ![nr, 256]⟩ : Shape).size inb') hc')) (.dma sem) hsrc hdst htt) k) Q := by
  subst hnr hn hn' hsem
  iintro H
  ihave H := (accC m K c (R' := R) p (σC_copy p)) $$ H
  icases H with ⟨#Hr, HO, Hq, HR, H⟩
  ihave Hq := (Entails.of_eq (show fC m c p 1 = iprop(obP m c p ∗ ouU c p ∗ tk (c, kC p) 0 ∗ ps (c, kC p)) from rfl)) $$ Hq
  unfold obP ouU
  icases Hq with ⟨Hs, ⟨%f0, Hd⟩, Ht, Hp⟩
  ihave Hs := (pt_set (ob_view_set ho inb hc hq).symm) $$ Hs
  ihave Hd := (pt_set (ou_view_set ho' inb' hc').symm) $$ Hd
  iapply (Rounds.wp_copy_pointsTo 𝒱₀ ER (Rd m) (c : Thread nD τ) none (κ := K (c, kC p)) (sem := csem (kC p)) (r := 0) (d := 0)
    (src := (obM.slice (Rect.unit (s := S8x512x256) off (⟨3, ![1, pnr p, 256]⟩ : Shape).size inb) hc).squeeze ⟨2, ![pnr p, 256]⟩ hq)
    (dst := ouM.slice (Rect.unit (s := S4096x256) off' (⟨2, ![pnr p, 256]⟩ : Shape).size inb') hc')
    (fs := OB m c) (fd := f0) (dmem m _ c) () (crO (pnr p)) rfl (amount_k m (c, kC p) 0)
    (by
      rw [show (Rd m).payload ((c : Thread nD τ), csem (kC p)) 0 0 = iprop(ouP m c p ∗ obP m c p) from payload_k m (c, kC p) 0]
      unfold ouP obP
      exact BIClass.sep_mono (pt_eqv (ℓ := lO c) (ou_view_set ho' inb' hc') (ou_landed m c ho inb hc hq ho' inb' hc' f0))
        (pt_set (ℓ := lOB c) (ob_view_set ho inb hc hq)))) $$ [Hs Hd Ht]
  · isplitr; · iapply (recs_inv m K (c, kC p)); iexact Hr
    isplitl [Hs]; · iexact Hs
    isplitl [Hd]; · iexact Hd
    isplitl [Ht]; · iexact Ht
    iapply (recs_reached m K (c, kC p)); iexact Hr
  iintro Hcr
  iapply h
  iapply H $$ HO [Hcr Hp] HR
  iapply (Entails.of_eq (show iprop(cr (c, kC p) (crO (pnr p)) ∗ ps (c, kC p)) = fC m c p 2 from rfl))
  isplitl [Hcr] <;> iassumption

/-! ## Arrivals -/

/-- A piece's rows arrived: the piece is whole, and its reader may read it. -/
theorem recv_wait (p : Fin 48) (hp : 4 ≤ p.val) (hpa : a = p.val) (hg : 3 ≤ g) (hsw : (wprd p).val < s)
    {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inr (.inr (.inl (wprd p))))))
    (ha : dst.view.dmaCredit = crX (wnr (wprd p))) (hsplit : xsP m c p fullShare ⊢ iprop(xsP m c p (ksh p) ∗ (R -∗ R')))
    {k : PUnit → TP F α} (h : St m K c x y w e g b s f (a + 1) n z R' ⊢ W1 c (k ⟨⟩) Q) :
    St m K c x y w e g b s f a n z R ⊢ W1 c (.op (.waitDma2 sem src dst hsrc hdst) k) Q := by
  have hr : arank p = a := by unfold arank; rw [if_neg (by omega), if_neg (by omega), hpa]
  iintro H
  ihave H := (accA m K c (R' := R') p (σA_step p hr)) $$ H
  icases H with ⟨#Hr, HO, Hq, HR, H⟩
  ihave Hq := (Entails.of_eq (show fA m c p 0 = iprop(cr (c, kR (wprd p)) (crX (wnr (wprd p))) ∗ ps (c, kR (wprd p))) from if_neg (by omega))) $$ Hq
  unfold ow
  icases HO with ⟨%W, HO⟩
  icases Hq with ⟨HC, HP⟩
  iapply (wait_k m K c (.inr (.inr (.inr (.inl (wprd p))))) (mayWait_lv c (kR (wprd p)) s g hg (by simp only [lvK]; omega)) hsem ha) $$ [HO HC HP]
  · isplitr; · iexact Hr
    isplitl [HO]; · iexact HO
    isplitl [HC]; · iexact HC
    iexact HP
  iintro HO HZ Hp
  iapply h
  ihave Hp := (Entails.of_eq (show pay m c 0 (kR (wprd p)) = xsP m c p fullShare from congrArg (fun p' => xsP m c p' fullShare) (wsuc_wprd p hp))) $$ Hp
  ihave Hp := hsplit $$ Hp
  icases Hp with ⟨Hk, Hw⟩
  iapply H $$ HO [HZ Hk] [Hw HR]
  · iapply (Entails.of_eq (show iprop(zs (c, kR (wprd p)) ∗ xsP m c p (ksh p)) = fA m c p 1 from (if_neg (by omega)).symm))
    isplitl [HZ] <;> iassumption
  · iapply Hw; iexact HR

theorem relay_split (p : Fin 48) (hp : 4 ≤ p.val) (hp' : p.val < 36) :
    xsP m c p fullShare ⊣⊢ iprop(srcP m c ⟨p.val + 8, by omega⟩ ∗ xsP m c p (ksh p)) := by
  have h1 : wpc ⟨p.val + 8, by omega⟩ = p := wpc_ring ⟨p.val, hp'⟩ hp (by show p.val + 8 < 44; omega)
  unfold srcP wsh wch woff wnr wz ksh xsP
  rw [h1, if_pos hp', if_neg (show ¬ (⟨p.val + 8, by omega⟩ : Fin 44).val < 12 by show ¬ p.val + 8 < 12; omega),
    if_neg (show ¬ (⟨p.val + 8, by omega⟩ : Fin 44).val < 12 by show ¬ p.val + 8 < 12; omega), if_pos rfl]
  exact pointsTo_share (PosShare.mem_left_op_right fullShare)

/-- A piece that is relayed. -/
theorem st_recv (p : Fin 48) (hp : 4 ≤ p.val) (hp' : p.val < 36) (hpa : a = p.val) (ha' : a + 1 = a') (hg : 3 ≤ g) (hsw : (wprd p).val < s)
    {i : Fin 44} (hi : i.val = p.val + 8)
    {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inr (.inr (.inl (wprd p))))))
    (ha : dst.view.dmaCredit = crX (wnr (wprd p)))
    {k : PUnit → TP F α} (h : St m K c x y w e g b s f a' n z iprop(srcP m c i ∗ R) ⊢ W1 c (k ⟨⟩) Q) :
    St m K c x y w e g b s f a n z R ⊢ W1 c (.op (.waitDma2 sem src dst hsrc hdst) k) Q := by
  subst ha'
  have hb : p.val + 8 < 44 := by omega
  obtain rfl : i = ⟨p.val + 8, hb⟩ := Fin.ext hi
  refine recv_wait m K c p hp hpa hg hsw hsem ha ?_ h
  iintro H
  ihave H := (relay_split m c p hp hp').1 $$ H
  icases H with ⟨Hs, Hk⟩
  isplitl [Hk]; · iexact Hk
  iintro HR
  isplitl [Hs] <;> iassumption

/-- A piece of the last ring step. -/
theorem st_recvlast (p : Fin 48) (hp' : 36 ≤ p.val) (hpa : a = p.val) (ha' : a + 1 = a') (hg : 3 ≤ g) (hsw : (wprd p).val < s)
    {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inr (.inr (.inl (wprd p))))))
    (ha : dst.view.dmaCredit = crX (wnr (wprd p)))
    {k : PUnit → TP F α} (h : St m K c x y w e g b s f a' n z R ⊢ W1 c (k ⟨⟩) Q) :
    St m K c x y w e g b s f a n z R ⊢ W1 c (.op (.waitDma2 sem src dst hsrc hdst) k) Q := by
  subst ha'
  refine recv_wait m K c p (by omega) hpa hg hsw hsem ha ?_ h
  rw [show ksh p = fullShare from if_neg (by omega)]
  iintro H
  isplitl [H]; · iexact H
  iintro HR; iexact HR

/-! ## The closing waits -/

theorem σS_wait (hf : f < 44) : σS 1 44 f (word ⟨f, hf⟩) = 2 ∧ σS 1 44 (f + 1) (word ⟨f, hf⟩) = 3
    ∧ ∀ j, j ≠ word ⟨f, hf⟩ → σS 1 44 (f + 1) j = σS 1 44 f j := by
  have hw := wfin_word ⟨f, hf⟩
  simp only at hw
  have hl := (word ⟨f, hf⟩).isLt
  unfold σS thr
  refine ⟨by rw [hw]; split_ifs <;> omega, by rw [hw]; split_ifs <;> omega, fun q hq => ?_⟩
  have : wfin q ≠ f := fun h => hq (wfin_inj _ _ (h.trans hw.symm))
  split_ifs <;> omega

/-- A wire's rows lent come back. -/
theorem st_swait (hf : f < 44) (hf' : f + 1 = f') {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inr (.inl (word ⟨f, hf⟩)))))
    (ha : dst.view.dmaCredit = crX (wnr (word ⟨f, hf⟩))) {k : PUnit → TP F α} (h : St m K c x y w e g 1 44 f' a n z R ⊢ W1 c (k ⟨⟩) Q) :
    St m K c x y w e g 1 44 f a n z R ⊢ W1 c (.op (.waitDma2 sem src dst hsrc hdst) k) Q := by
  subst hf'
  have hσ := σS_wait hf
  generalize word ⟨f, hf⟩ = i at *
  iintro H
  ihave H := (accS m K c (R' := R) i hσ) $$ H
  icases H with ⟨#Hr, HO, Hq, HR, H⟩
  ihave Hq := (Entails.of_eq (show fS m c i 2 = iprop(cr (c, kS i) (crX (wnr i)) ∗ ps (c, kS i)) from rfl)) $$ Hq
  unfold ow
  icases HO with ⟨%W, HO⟩
  icases Hq with ⟨HC, HP⟩
  iapply (wait_k m K c (.inr (.inr (.inl i))) (mayWait_low c _ (lv_k (c, kS i) ()) g 44) hsem ha) $$ [HO HC HP]
  · isplitr; · iexact Hr
    isplitl [HO]; · iexact HO
    isplitl [HC]; · iexact HC
    iexact HP
  iintro HO HZ Hp
  iapply h
  iapply H $$ HO [HZ Hp] HR
  ihave Hp := (Entails.of_eq (show pay m c 0 (kS i) = srcP m c i from rfl)) $$ Hp
  iapply (Entails.of_eq (show iprop(zs (c, kS i) ∗ srcP m c i) = fS m c i 3 from rfl))
  isplitl [HZ] <;> iassumption

/-- A piece is out. -/
theorem st_cwait (hz : z < 48) (hz' : z + 1 = z') {sp sp' : Space} {t t' : Shape} {ty ty' : EltTy} {sem : DmaSem sig} {src : Memref sig .tc sp' t' ty'}
    {dst : Memref sig .tc sp t ty} {hsrc : src.view.WordExact} {hdst : dst.view.WordExact} (hsem : sem = dsem (.inr (.inr (.inr (.inr ⟨z, hz⟩)))))
    (ha : dst.view.dmaCredit = crO (pnr ⟨z, hz⟩)) {k : PUnit → TP F α} (h : St m K c x y w e g b s f a 96 z' R ⊢ W1 c (k ⟨⟩) Q) :
    St m K c x y w e g b s f a 96 z R ⊢ W1 c (.op (.waitDma2 sem src dst hsrc hdst) k) Q := by
  subst hz'
  have hσ : σC 96 z ⟨z, hz⟩ = 2 ∧ σC 96 (z + 1) ⟨z, hz⟩ = 3 ∧ ∀ j, j ≠ ⟨z, hz⟩ → σC 96 (z + 1) j = σC 96 z j := σC_wait ⟨z, hz⟩
  generalize (⟨z, hz⟩ : Fin 48) = i at *
  iintro H
  ihave H := (accC m K c (R' := R) i hσ) $$ H
  icases H with ⟨#Hr, HO, Hq, HR, H⟩
  ihave Hq := (Entails.of_eq (show fC m c i 2 = iprop(cr (c, kC i) (crO (pnr i)) ∗ ps (c, kC i)) from rfl)) $$ Hq
  unfold ow
  icases HO with ⟨%W, HO⟩
  icases Hq with ⟨HC, HP⟩
  iapply (wait_k m K c (.inr (.inr (.inr (.inr i)))) (mayWait_low c _ (lv_k (c, kC i) ()) g s) hsem ha) $$ [HO HC HP]
  · isplitr; · iexact Hr
    isplitl [HO]; · iexact HO
    isplitl [HC]; · iexact HC
    iexact HP
  iintro HO HZ Hp
  iapply h
  iapply H $$ HO [HZ Hp] HR
  ihave Hp := (Entails.of_eq (show pay m c 0 (kC i) = iprop(ouP m c i ∗ obP m c i) from rfl)) $$ Hp
  iapply (Entails.of_eq (show iprop(zs (c, kC i) ∗ ouP m c i ∗ obP m c i) = fC m c i 3 from rfl))
  isplitl [HZ] <;> iassumption

end Cert.GatherProof

end
-- ==== Proof.StepsD.lean ====
/-
# The steps as the run meets them

Each step again with the piece it is at read off the counters, and the two rules for a part: run it with whatever comes
after kept aside, and hand its result on.
-/
module

public import proofs.«01_k».proof.Proof.StepsC

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}

variable {α : Type} {Q : α → sProp (MT nD τ sig Unit (Elt F) ℕ UU ℕ)} {x' y' w' e' g' b' s' f' a' n' z' : ℕ}

/-- A sequence: the first part, then the rest from what it returns. -/
theorem st_bind {β : Type} {P : sProp 𝕄} {p : TP F β} {k : β → TP F α}
    (h : ∀ Φ : β → sProp 𝕄, (fun v => W1 c (k v) Q) = Φ → (P ⊢ W1 c p Φ)) : P ⊢ W1 c (p >>= k) Q := by
  have h := h _ rfl
  unfold W1 at h ⊢
  rw [wp_bind]; exact h

/-- The end of a part: the rest from what it returned. -/
theorem st_ret {P : sProp 𝕄} {r : α} {Q' : α → sProp 𝕄} (hQ : Q' = Q) (h : P ⊢ Q' r) : P ⊢ W1 c (.ret r) Q := by
  subst hQ
  exact h.trans fupd_intro

/-- A buffer of one word has one position. -/
theorem s1_one (i j : S1.Idx) : i = j := funext fun t => by
  obtain rfl : t = 0 := Subsingleton.elim _ _
  exact Subsingleton.elim (α := Fin 1) _ _

/-- The word of `scale_x`. -/
theorem st_sx1 {r : Rect S1} {hl} {k : (r.shape.Idx → Elt F .f32) → TP F α}
    (h : St m K c x y w e g b s f a n z R ⊢ W1 c (k fun _ => sxb m c (ix1 (0 : Fin 1))) Q) :
    St m K c x y w e g b s f a n z R ⊢ W1 c (.op (.load sxM r.toLoadRect hl) k) Q := by
  refine st_sx m K c ?_
  rw [show sxM.view.readAt (Elt F) r.toLoadRect (sxb m c) = fun _ => sxb m c (ix1 (0 : Fin 1)) from
    funext fun i => congrArg (sxb m c) (s1_one _ _)]
  exact h

/-- The word of `scale_w`. -/
theorem st_sw1 {r : Rect S1} {hl} {k : (r.shape.Idx → Elt F .f32) → TP F α}
    (h : St m K c x y w e g b s f a n z R ⊢ W1 c (k fun _ => swb m c (ix1 (0 : Fin 1))) Q) :
    St m K c x y w e g b s f a n z R ⊢ W1 c (.op (.load swM r.toLoadRect hl) k) Q := by
  refine st_sw m K c ?_
  rw [show swM.view.readAt (Elt F) r.toLoadRect (swb m c) = fun _ => swb m c (ix1 (0 : Fin 1)) from
    funext fun i => congrArg (swb m c) (s1_one _ _)]
  exact h

/-- The load of a gathered piece: the one being computed. -/
theorem st_xsload' (hb : n / 2 < 48) (hp : arank ⟨n / 2, hb⟩ < a) {nr : ℕ} (hnr : nr = pnr ⟨n / 2, hb⟩) {off : Fin 3 → ℕ}
    (ho : off = ![pch c ⟨n / 2, hb⟩, poff ⟨n / 2, hb⟩, 0])
    {inb : ∀ a, off a + (⟨3, ![1, nr, 4096]⟩ : Shape).size a ≤ S8x512x4096.size a} {hl} {k : _ → TP F α}
    (h : St m K c x y w e g b s f a n z R ⊢ W1 c (k (rdX m nr (pch c ⟨n / 2, hb⟩) (poff ⟨n / 2, hb⟩))) Q) :
    St m K c x y w e g b s f a n z R
      ⊢ W1 c (.op (.load xsM (Rect.unit (s := S8x512x4096) off (⟨3, ![1, nr, 4096]⟩ : Shape).size inb).toLoadRect hl) k) Q :=
  st_xsload m K c _ hp hnr ho h

/-- The dead load before the store of an own piece. -/
theorem st_xsdead' (ha : a < 4) {off : Fin 3 → ℕ} (ho : off = ![c.val, 128 * (xord ⟨a, ha⟩).val, 0])
    {inb : ∀ a, off a + S1x128x4096.size a ≤ S8x512x4096.size a} {hl} {k : _ → TP F α}
    (h : ∀ v, St m K c x y w e g b s f a n z R ⊢ W1 c (k v) Q) :
    St m K c x y w e g b s f a n z R ⊢ W1 c (.op (.load xsM (Rect.unit (s := S8x512x4096) off S1x128x4096.size inb).toLoadRect hl) k) Q :=
  st_xsdead m K c ⟨a, ha⟩ (Nat.le_refl a) ho h

/-- The store of an own piece, rounded. -/
theorem st_xsstore' (ha : a < 4) (ha' : a + 1 = a') {off : Fin 3 → ℕ} (ho : off = ![c.val, 128 * (xord ⟨a, ha⟩).val, 0])
    {inb : ∀ a, off a + S1x128x4096.size a ≤ S8x512x4096.size a} {v : S1x128x4096.Idx → Elt F .fp8e4m3} {hx hm} {k : PUnit → TP F α}
    {off' : Fin 2 → ℕ} (ho' : off' = ![128 * (xord ⟨a, ha⟩).val, 0]) {inb' : ∀ a, off' a + S128x4096.size a ≤ S512x4096.size a}
    (hv : v = k0_pay2 (xfM.view.readAt (Elt F) (Rect.unit (s := S512x4096) off' S128x4096.size inb').toLoadRect (xb m c)))
    (b0 : 3 * a < 44) (b1 : 3 * a + 1 < 44) (b2 : 3 * a + 2 < 44)
    (h : St m K c x y w e g b s f a' n z iprop(srcP m c ⟨3 * a, b0⟩ ∗ srcP m c ⟨3 * a + 1, b1⟩ ∗ srcP m c ⟨3 * a + 2, b2⟩ ∗ R) ⊢ W1 c (k ⟨⟩) Q) :
    St m K c x y w e g b s f a n z R ⊢ W1 c (.op (.store xsM (Rect.unit (s := S8x512x4096) off S1x128x4096.size inb) v Finset.univ hx hm) k) Q :=
  st_xsstore m K c ⟨a, ha⟩ rfl ha' ho ho' hv rfl rfl rfl h

/-- The wait for a piece that is sent on. -/
theorem st_recv' (h48 : a < 48) (hp : 4 ≤ a) (hp' : a < 36) (ha' : a + 1 = a') (hg : 3 ≤ g) (hsw : (wprd ⟨a, h48⟩).val < s) (hi : a + 8 < 44)
    {sp sp' : Space} {t t' : Shape} {ty ty' : EltTy} {sem : DmaSem sig} {src : Memref sig .tc sp' t' ty'}
    {dst : Memref sig .tc sp t ty} {hsrc : src.view.WordExact} {hdst : dst.view.WordExact}
    (hsem : sem = dsem (.inr (.inr (.inr (.inl (wprd ⟨a, h48⟩)))))) (ha : dst.view.dmaCredit = crX (wnr (wprd ⟨a, h48⟩)))
    {k : PUnit → TP F α} (h : St m K c x y w e g b s f a' n z iprop(srcP m c ⟨a + 8, hi⟩ ∗ R) ⊢ W1 c (k ⟨⟩) Q) :
    St m K c x y w e g b s f a n z R ⊢ W1 c (.op (.waitDma2 sem src dst hsrc hdst) k) Q :=
  st_recv m K c ⟨a, h48⟩ hp hp' rfl ha' hg hsw rfl hsem ha h

/-- The wait for a piece that stays. -/
theorem st_recvlast' (h48 : a < 48) (hp' : 36 ≤ a) (ha' : a + 1 = a') (hg : 3 ≤ g) (hsw : (wprd ⟨a, h48⟩).val < s)
    {sp sp' : Space} {t t' : Shape} {ty ty' : EltTy} {sem : DmaSem sig} {src : Memref sig .tc sp' t' ty'}
    {dst : Memref sig .tc sp t ty} {hsrc : src.view.WordExact} {hdst : dst.view.WordExact}
    (hsem : sem = dsem (.inr (.inr (.inr (.inl (wprd ⟨a, h48⟩)))))) (ha : dst.view.dmaCredit = crX (wnr (wprd ⟨a, h48⟩)))
    {k : PUnit → TP F α} (h : St m K c x y w e g b s f a' n z R ⊢ W1 c (k ⟨⟩) Q) :
    St m K c x y w e g b s f a n z R ⊢ W1 c (.op (.waitDma2 sem src dst hsrc hdst) k) Q :=
  st_recvlast m K c ⟨a, h48⟩ hp' rfl ha' hg hsw hsem ha h

/-- The dead load before a store of the output buffer. -/
theorem st_obdead' (hb : n / 2 < 48) (hn : n = 2 * (n / 2)) {nr : ℕ} (hnr : nr = pnr ⟨n / 2, hb⟩) {off : Fin 3 → ℕ}
    (ho : off = ![pch c ⟨n / 2, hb⟩, poff ⟨n / 2, hb⟩, 0]) {inb : ∀ a, off a + (⟨3, ![1, nr, 256]⟩ : Shape).size a ≤ S8x512x256.size a} {hl} {k : _ → TP F α}
    (h : ∀ v, St m K c x y w e g b s f a n 0 R ⊢ W1 c (k v) Q) :
    St m K c x y w e g b s f a n 0 R
      ⊢ W1 c (.op (.load obM (Rect.unit (s := S8x512x256) off (⟨3, ![1, nr, 256]⟩ : Shape).size inb).toLoadRect hl) k) Q :=
  st_obdead m K c _ hn hnr ho h

/-- The store of a computed piece of 128 rows. -/
theorem st_obstore128' (hb : n / 2 < 48) (hn : n = 2 * (n / 2)) (hn' : n + 1 = n') (hnr : 128 = pnr ⟨n / 2, hb⟩) {off : Fin 3 → ℕ}
    (ho : off = ![pch c ⟨n / 2, hb⟩, poff ⟨n / 2, hb⟩, 0])
    {inb : ∀ a, off a + S1x128x256.size a ≤ S8x512x256.size a} {v : S1x128x256.Idx → Elt F .f32}
    (hv : v = k0_pay7 (scl m c) (rdX m 128 (pch c ⟨n / 2, hb⟩) (poff ⟨n / 2, hb⟩)) (W8 m c)) {hx hm} {k : PUnit → TP F α}
    (h : St m K c x y w e g b s f a n' 0 R ⊢ W1 c (k ⟨⟩) Q) :
    St m K c x y w e g b s f a n 0 R
      ⊢ W1 c (.op (.store obM (Rect.unit (s := S8x512x256) off S1x128x256.size inb) v Finset.univ hx hm) k) Q :=
  st_obstore128 m K c _ hn hn' hnr ho hv h

/-- The store of a computed piece of 64 rows. -/
theorem st_obstore64' (hb : n / 2 < 48) (hn : n = 2 * (n / 2)) (hn' : n + 1 = n') (hnr : 64 = pnr ⟨n / 2, hb⟩) {off : Fin 3 → ℕ}
    (ho : off = ![pch c ⟨n / 2, hb⟩, poff ⟨n / 2, hb⟩, 0])
    {inb : ∀ a, off a + S1x64x256.size a ≤ S8x512x256.size a} {v : S1x64x256.Idx → Elt F .f32}
    (hv : v = k0_pay15 (scl m c) (rdX m 64 (pch c ⟨n / 2, hb⟩) (poff ⟨n / 2, hb⟩)) (W8 m c)) {hx hm} {k : PUnit → TP F α}
    (h : St m K c x y w e g b s f a n' 0 R ⊢ W1 c (k ⟨⟩) Q) :
    St m K c x y w e g b s f a n 0 R
      ⊢ W1 c (.op (.store obM (Rect.unit (s := S8x512x256) off S1x64x256.size inb) v Finset.univ hx hm) k) Q :=
  st_obstore64 m K c _ hn hn' hnr ho hv h

/-- The local copy of a computed piece to the output. -/
theorem st_copy' (hb : n / 2 < 48) (hn : n = 2 * (n / 2) + 1) (hn' : n + 1 = n') {nr : ℕ} (hnr : nr = pnr ⟨n / 2, hb⟩) {off : Fin 3 → ℕ}
    (ho : off = ![pch c ⟨n / 2, hb⟩, poff ⟨n / 2, hb⟩, 0]) {off' : Fin 2 → ℕ}
    (ho' : off' = ![512 * pch c ⟨n / 2, hb⟩ + poff ⟨n / 2, hb⟩, 0])
    {inb : ∀ a, off a + (⟨3, ![1, nr, 256]⟩ : Shape).size a ≤ S8x512x256.size a}
    {inb' : ∀ a, off' a + (⟨2, ![nr, 256]⟩ : Shape).size a ≤ S4096x256.size a} {hc hq hc'} {sem : DmaSem sig}
    (hsem : sem = dsem (.inr (.inr (.inr (.inr ⟨n / 2, hb⟩))))) {hsrc hdst htt} {k : PUnit → TP F α}
    (h : St m K c x y w e g b s f a n' 0 R ⊢ W1 c (k ⟨⟩) Q) :
    St m K c x y w e g b s f a n 0 R ⊢ W1 c (.op (.enqueueDma
      ((obM.slice (Rect.unit (s := S8x512x256) off (⟨3, ![1, nr, 256]⟩ : Shape).size inb) hc).squeeze ⟨2, ![nr, 256]⟩ hq)
      (.here (ouM.slice (Rect.unit (s := S4096x256) off' (⟨2, ![nr, 256]⟩ : Shape).size inb') hc')) (.dma sem) hsrc hdst htt) k) Q :=
  st_copy m K c _ hn hn' hnr ho ho' hsem h

/-- The load of the quarter that has just landed. -/
theorem st_xfload' (hb : y - 1 < 4) (hq : σX x y (xord ⟨y - 1, hb⟩) = 2) {off : Fin 2 → ℕ} (ho : off = ![128 * (xord ⟨y - 1, hb⟩).val, 0])
    {inb : ∀ a, off a + S128x4096.size a ≤ S512x4096.size a} {hl} {k : _ → TP F α}
    (h : St m K c x y w e g b s f a n z R
      ⊢ W1 c (k (xfM.view.readAt (Elt F) (Rect.unit (s := S512x4096) off S128x4096.size inb).toLoadRect (xb m c))) Q) :
    St m K c x y w e g b s f a n z R ⊢ W1 c (.op (.load xfM (Rect.unit (s := S512x4096) off S128x4096.size inb).toLoadRect hl) k) Q :=
  st_xfload m K c _ hq ho h

end Cert.GatherProof

end
-- ==== Proof.BodyA.lean ====
/-
# The run, first part
-/
module

public import proofs.«01_k».proof.Proof.StepsD

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}

variable {α : Type} {Q : α → sProp (MT nD τ sig Unit (Elt F) ℕ UU ℕ)} {x' y' w' e' g' b' s' f' a' n' z' : ℕ}

attribute [local irreducible] Idealize.SL.Sem.wp St

set_option maxHeartbeats 0 in
/-- From the start to the second arrival round: the loads, the barrier, the four own quarters cast and sent, the cast
    of `w`, the pieces at hand multiplied. -/
theorem run_head {k : (d0 : Dev nD) → (v3 v4 v7 v10 v12 : BitVec 32) → F .f32 → TP F α}
    (h : ∀ v3 v4 v7 v10 v12, St m K c 4 4 2 1 3 1 22 0 15 28 0 iprop(srcP m c ⟨14 + 8, by decide⟩ ∗ R)
      ⊢ W1 c (k c v3 v4 v7 v10 v12 (k0_pay1 (sxb m c (ix1 0)) (swb m c (ix1 0)))) Q) :
    St m K c 0 0 0 0 0 0 0 0 0 0 0 R ⊢ W1 c (do
      let ⟨d0, v2, v3, v4, v7, v10, v12⟩ : Σ' (d0 : Dev nD) (v2 : BitVec 32) (v3 : BitVec 32) (v4 : BitVec 32) (v7 : BitVec 32) (v10 : BitVec 32), BitVec 32 ← k0_part1
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11
      let v40 : F .f32 ← k0_part2
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v7 v10 v12
      k0_part3
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v7 v12
      k0_part4
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v10 v12
      k0_part5
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v7 v12
      k0_part6
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v12
      k0_part7
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v10 v12
      k0_part8
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v12 v40
      let ⟨v256, v258⟩ : Σ' (v256 : FVec F S128x256 .f32), Vec F S1x128x256 .f32 ← k0_part9
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v40
      k0_part10
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v2 v12 v40 v256 v258
      k0_part11
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v7 v12 v40
      let ⟨v346, v347, cst_304⟩ : Σ' (v346 : FVec F S64x4096 .fp8e4m3) (v347 : Vec F S4096x256 .fp8e5m2), FVec F S64x256 .f32 ← k0_part12
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v7 v12
      k0_part13
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v10 v12 v40 v346 v347 cst_304
      k0_part14
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v12 v40
      k0_part15
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v10 v12 v40
      let ⟨v466, v468⟩ : Σ' (v466 : FVec F S64x256 .f32), Vec F S1x64x256 .f32 ← k0_part16
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v7 v12 v40
      k0_part17
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v7 v12 v466 v468
      let ⟨v525, c4_i32_461⟩ : Σ' (v525 : BitVec 32), BitVec 32 ← k0_part18
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v7 v12 v40
      let ⟨v549, c0_i32_495⟩ : Σ' (v549 : BitVec 32), BitVec 32 ← k0_part19
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v4 v7 v10 v525 c4_i32_461
      let v584 : BitVec 32 ← k0_part20
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v4 v40 v549 c0_i32_495
      let ⟨v614, c4_i32_542⟩ : Σ' (v614 : BitVec 32), BitVec 32 ← k0_part21
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v4 v7 v40 v584
      let c1_i32_576 : BitVec 32 ← k0_part22
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v4 v7 v10 v614 c4_i32_542
      let v673 : BitVec 32 ← k0_part23
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v3 v4 v10 v40 c1_i32_576
      k0_part24
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 d0 v4 v12 v40 v673
      k d0 v3 v4 v7 v10 v12 v40) Q := by
  repeat (first
    | (refine st_bind c fun Φ hΦ => ?_;
       simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, semSignalWord, semWaitWord, smemLoad, smemLoadElt, Prog.lift, Prog.bind_op, Prog.bind_ret, Prog.pure_eq_ret])
    | refine st_dev m K c ?_
    | (refine st_xstart m K c (by decide) (by decide) (by simp only [Nat.reduceAdd]; rfl) (by decide) (by rfl) ?_)
    | refine st_wstart m K c (by rfl) ?_
    | (refine st_signal m K c (by decide) (by simp only [Nat.reduceAdd]; rfl) (by clear * - c; revert c; decide +kernel) (by rfl) ?_)
    | refine st_barrier m K c (by decide) (by rfl) ?_
    | refine st_sx1 m K c ?_
    | refine st_sw1 m K c ?_
    | (refine st_send m K c (by decide) (by decide) (by simp only [Nat.reduceAdd]; rfl) (by decide) (by clear * - c; revert c; decide +kernel) (by clear * - c; revert c; decide +kernel) (by rfl) (by rfl) ?_)
    | (refine st_copy' m K c (by decide) (by decide) (by simp only [Nat.reduceAdd]; rfl) (by decide) (by clear * - c; revert c; decide +kernel) (by clear * - c; revert c; decide +kernel) (by rfl) ?_)
    | (refine st_xfload' m K c (by decide) (by decide) (by clear * - c; revert c; decide +kernel) ?_)
    | refine st_wfload m K c hz2 ?_
    | refine st_w8load m K c hz2 ?_
    | refine st_w8dead m K c fun _ => ?_
    | refine st_w8store m K c hz2 (by rfl) ?_
    | (refine st_xsload' m K c (by decide) (by decide) (by decide) (by clear * - c; revert c; decide +kernel) ?_)
    | (refine st_xsdead' m K c (by decide) (by clear * - c; revert c; decide +kernel) fun _ => ?_)
    | (refine st_xsstore' m K c (by decide) (by simp only [Nat.reduceAdd]; rfl) (by clear * - c; revert c; decide +kernel) (off' := ![_, 0]) (by rfl) (by rfl) (by decide) (by decide) (by decide) ?_)
    | (refine st_obdead' m K c (by decide) (by decide) (by decide) (by clear * - c; revert c; decide +kernel) fun _ => ?_)
    | (refine st_obstore128' m K c (by decide) (by decide) (by simp only [Nat.reduceAdd]; rfl) (by decide) (by clear * - c; revert c; decide +kernel) (by rfl) ?_)
    | (refine st_obstore64' m K c (by decide) (by decide) (by simp only [Nat.reduceAdd]; rfl) (by decide) (by clear * - c; revert c; decide +kernel) (by rfl) ?_)
    | (refine st_xwait m K c (by decide) (by decide) (by simp only [Nat.reduceAdd]; rfl) (by rfl) (by rfl) ?_)
    | refine st_wwait m K c (by rfl) (by rfl) ?_
    | (refine st_recv' m K c (by decide) (by decide) (by decide) (by simp only [Nat.reduceAdd]; rfl) (by decide) (by decide) (by decide) (by rfl) (by rfl) ?_)
    | refine st_ret c (by assumption) ?_)
  exact h _ _ _ _ _

end Cert.GatherProof

end
-- ==== Proof.BodyB.lean ====
/-
# The run, second part
-/
module

public import proofs.«01_k».proof.Proof.StepsD

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}

variable {α : Type} {Q : α → sProp (MT nD τ sig Unit (Elt F) ℕ UU ℕ)} {x' y' w' e' g' b' s' f' a' n' z' : ℕ}

attribute [local irreducible] Idealize.SL.Sem.wp St

set_option maxHeartbeats 0 in
/-- The arrivals, each sent on and multiplied, to the last send. -/
theorem run_mid {k : TP F α} {v3 v4 v7 v10 v12 : BitVec 32}
    (h : St m K c 4 4 2 1 3 1 44 0 38 73 0 R ⊢ W1 c k Q) :
    St m K c 4 4 2 1 3 1 22 0 15 28 0 iprop(srcP m c ⟨14 + 8, by decide⟩ ∗ R) ⊢ W1 c (do
      let c1_i32_649 : BitVec 32 ← k0_part25
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v10 v12 (k0_pay1 (sxb m c (ix1 0)) (swb m c (ix1 0)))
      let v765 : BitVec 32 ← k0_part26
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v10 v12 (k0_pay1 (sxb m c (ix1 0)) (swb m c (ix1 0))) c1_i32_649
      k0_part27
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v765
      k0_part28
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10
      let ⟨v849, v852⟩ : Σ' (v849 : BitVec 32), FVec F S64x4096 .fp8e4m3 ← k0_part29
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0)))
      let v882 : BitVec 32 ← k0_part30
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0))) v849 v852
      k0_part31
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10 v882
      k0_part32
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k0_part33
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0)))
      k0_part34
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      let ⟨v1020, v1027, v1028⟩ : Σ' (v1020 : BitVec 32) (v1027 : FVec F S64x256 .f32), FVec F S64x256 .f32 ← k0_part35
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k0_part36
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1020 v1027 v1028
      k0_part37
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7
      let v1115 : BitVec 32 ← k0_part38
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10
      let ⟨v1143, v1148, v1149⟩ : Σ' (v1143 : BitVec 32) (v1148 : FVec F S64x256 .f32), FVec F S64x256 .f32 ← k0_part39
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1115
      let v1176 : BitVec 32 ← k0_part40
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v1143 v1148 v1149
      k0_part41
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 v1176
      let ⟨v1233, v1236, v1237, cst_1112⟩ : Σ' (v1233 : BitVec 32) (v1236 : FVec F S128x4096 .fp8e4m3) (v1237 : Vec F S4096x256 .fp8e5m2), FVec F S128x256 .f32 ← k0_part42
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0)))
      k0_part43
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0))) v1233 v1236 v1237 cst_1112
      k0_part44
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      let ⟨v1323, v1326⟩ : Σ' (v1323 : BitVec 32), FVec F S128x4096 .fp8e4m3 ← k0_part45
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0)))
      k0_part46
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0))) v1323 v1326
      let c1_i32_1253 : BitVec 32 ← k0_part47
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      k0_part48
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0))) c1_i32_1253
      k0_part49
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0)))
      k0_part50
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      let ⟨v1494, v1503⟩ : Σ' (v1494 : BitVec 32), FVec F S64x256 .f32 ← k0_part51
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k0_part52
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1494 v1503
      k0_part53
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7
      let ⟨v1590, c4_i32_1442⟩ : Σ' (v1590 : BitVec 32), BitVec 32 ← k0_part54
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10
      let ⟨v1617, v1624, v1625⟩ : Σ' (v1617 : BitVec 32) (v1624 : FVec F S64x256 .f32), FVec F S64x256 .f32 ← k0_part55
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1590 c4_i32_1442
      k0_part56
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v1617 v1624 v1625
      k0_part57
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      let v1712 : BitVec 32 ← k0_part58
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0)))
      k0_part59
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v4 v7 (k0_pay1 (sxb m c (ix1 0)) (swb m c (ix1 0))) v1712
      k0_part60
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k) Q := by
  repeat (first
    | (refine st_bind c fun Φ hΦ => ?_;
       simp only [k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, semSignalWord, semWaitWord, smemLoad, smemLoadElt, Prog.lift, Prog.bind_op, Prog.bind_ret, Prog.pure_eq_ret])
    | (refine st_send m K c (by decide) (by decide) (by simp only [Nat.reduceAdd]; rfl) (by decide) (by clear * - c; revert c; decide +kernel) (by clear * - c; revert c; decide +kernel) (by rfl) (by rfl) ?_)
    | (refine st_copy' m K c (by decide) (by decide) (by simp only [Nat.reduceAdd]; rfl) (by decide) (by clear * - c; revert c; decide +kernel) (by clear * - c; revert c; decide +kernel) (by rfl) ?_)
    | refine st_w8load m K c hz2 ?_
    | (refine st_xsload' m K c (by decide) (by decide) (by decide) (by clear * - c; revert c; decide +kernel) ?_)
    | (refine st_obdead' m K c (by decide) (by decide) (by decide) (by clear * - c; revert c; decide +kernel) fun _ => ?_)
    | (refine st_obstore128' m K c (by decide) (by decide) (by simp only [Nat.reduceAdd]; rfl) (by decide) (by clear * - c; revert c; decide +kernel) (by rfl) ?_)
    | (refine st_obstore64' m K c (by decide) (by decide) (by simp only [Nat.reduceAdd]; rfl) (by decide) (by clear * - c; revert c; decide +kernel) (by rfl) ?_)
    | (refine st_recv' m K c (by decide) (by decide) (by decide) (by simp only [Nat.reduceAdd]; rfl) (by decide) (by decide) (by decide) (by rfl) (by rfl) ?_)
    | (refine st_recvlast' m K c (by decide) (by decide) (by simp only [Nat.reduceAdd]; rfl) (by decide) (by decide) (by rfl) (by rfl) ?_)
    | refine st_ret c (by assumption) ?_)
  exact h

end Cert.GatherProof

end
-- ==== Proof.BodyC.lean ====
/-
# The run, third part
-/
module

public import proofs.«01_k».proof.Proof.StepsD

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}

variable {α : Type} {Q : α → sProp (MT nD τ sig Unit (Elt F) ℕ UU ℕ)} {x' y' w' e' g' b' s' f' a' n' z' : ℕ}

attribute [local irreducible] Idealize.SL.Sem.wp St

set_option maxHeartbeats 0 in
/-- The last arrivals multiplied, and the closing waits but for four copies out. -/
theorem run_tail {k : TP F α} {v3 v4 v7 v10 : BitVec 32}
    (h : St m K c 4 4 2 1 3 1 44 44 48 96 44 R ⊢ W1 c k Q) :
    St m K c 4 4 2 1 3 1 44 0 38 73 0 R ⊢ W1 c (do
      k0_part61
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0)))
      k0_part62
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k0_part63
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 (k0_pay1 (sxb m c (ix1 0)) (swb m c (ix1 0)))
      let ⟨v1883, v1892⟩ : Σ' (v1883 : BitVec 32), FVec F S64x256 .f32 ← k0_part64
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v10 (k0_pay1 (sxb m c (ix1 0)) (swb m c (ix1 0)))
      k0_part65
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1883 v1892
      let ⟨v1950, v1953⟩ : Σ' (v1950 : BitVec 32), FVec F S64x4096 .fp8e4m3 ← k0_part66
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 v7 v10
      let v1989 : BitVec 32 ← k0_part67
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v1950 v1953
      let v2014 : BitVec 32 ← k0_part68
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v7 v10 v1989
      let ⟨v2042, v2047, v2048⟩ : Σ' (v2042 : BitVec 32) (v2047 : FVec F S64x256 .f32), FVec F S64x256 .f32 ← k0_part69
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0))) v2014
      k0_part70
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v7 v10 v2042 v2047 v2048
      let ⟨v2108, c8_i32_1883⟩ : Σ' (v2108 : BitVec 32), BitVec 32 ← k0_part71
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c v3 v4 (k0_pay1 (sxb m c (ix1 0)) (swb m c (ix1 0)))
      k0_part72
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c (k0_pay1 (sxb m c (ix1 0)) (swb m c (ix1 0))) v2108 c8_i32_1883
      k0_part73
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part74
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part75
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part76
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part77
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part78
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part79
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part80
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part81
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part82
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part83
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part84
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part85
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part86
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part87
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part88
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part89
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part90
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part91
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k0_part92
        (Memref.whole main_arg0) (Memref.isWhole_whole _) (Memref.whole main_arg1) (Memref.isWhole_whole _) sxM (Memref.isWhole_whole _) swM (Memref.isWhole_whole _) ouM (Memref.isWhole_whole _) xsM (Memref.isWhole_whole _) xfM (Memref.isWhole_whole _) wfM (Memref.isWhole_whole _) w8M (Memref.isWhole_whole _) obM (Memref.isWhole_whole _) cc0_scratch5 cc0_scratch6 cc0_scratch7 cc0_scratch8 cc0_scratch9 cc0_scratch10 cc0_scratch11 c
      k) Q := by
  repeat (first
    | (refine st_bind c fun Φ hΦ => ?_;
       simp only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, semSignalWord, semWaitWord, smemLoad, smemLoadElt, Prog.lift, Prog.bind_op, Prog.bind_ret, Prog.pure_eq_ret])
    | (refine st_copy' m K c (by decide) (by decide) (by simp only [Nat.reduceAdd]; rfl) (by decide) (by clear * - c; revert c; decide +kernel) (by clear * - c; revert c; decide +kernel) (by rfl) ?_)
    | refine st_w8load m K c hz2 ?_
    | (refine st_xsload' m K c (by decide) (by decide) (by decide) (by clear * - c; revert c; decide +kernel) ?_)
    | (refine st_obdead' m K c (by decide) (by decide) (by decide) (by clear * - c; revert c; decide +kernel) fun _ => ?_)
    | (refine st_obstore128' m K c (by decide) (by decide) (by simp only [Nat.reduceAdd]; rfl) (by decide) (by clear * - c; revert c; decide +kernel) (by rfl) ?_)
    | (refine st_obstore64' m K c (by decide) (by decide) (by simp only [Nat.reduceAdd]; rfl) (by decide) (by clear * - c; revert c; decide +kernel) (by rfl) ?_)
    | (refine st_recvlast' m K c (by decide) (by decide) (by simp only [Nat.reduceAdd]; rfl) (by decide) (by decide) (by rfl) (by rfl) ?_)
    | (refine st_swait m K c (by decide) (by simp only [Nat.reduceAdd]; rfl) (by rfl) (by rfl) ?_)
    | (refine st_cwait m K c (by decide) (by simp only [Nat.reduceAdd]; rfl) (by rfl) (by rfl) ?_)
    | refine st_ret c (by assumption) ?_)
  exact h

end Cert.GatherProof

end
-- ==== Proof.Ends.lean ====
/-
# The two ends of a device's run

What a device is dealt before the kernel, put together as the state it starts in; and the state it ends in, put back
together as whole buffers: the shares the wires lent rejoined piece by piece, the pieces rejoined.
-/
module

public import proofs.«01_k».proof.Proof.StepsC

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)

/-! ## Products over the cells, over the pieces -/

/-- The cells other than the barrier. -/
abbrev NK : Type := Unit ⊕ Fin 4 ⊕ Fin 44 ⊕ Fin 44 ⊕ Fin 48

theorem bigSep_unit (Φ : Unit → sProp (MT nD τ sig Unit (Elt F) ℕ UU ℕ)) : bigSep Finset.univ Φ = Φ () := by
  rw [show (Finset.univ : Finset Unit) = {()} from rfl, bigSep_singleton]

theorem bigSep_NK (Φ : NK → sProp (MT nD τ sig Unit (Elt F) ℕ UU ℕ)) : bigSep Finset.univ Φ
    = iprop(Φ (.inl ()) ∗ (bigSep Finset.univ fun q => Φ (.inr (.inl q))) ∗ (bigSep Finset.univ fun x => Φ (.inr (.inr (.inl x))))
        ∗ (bigSep Finset.univ fun x => Φ (.inr (.inr (.inr (.inl x))))) ∗ bigSep Finset.univ fun p => Φ (.inr (.inr (.inr (.inr p))))) := by
  rw [BI.bigSep_univ_sum, BI.bigSep_univ_sum, BI.bigSep_univ_sum, BI.bigSep_univ_sum, bigSep_unit]; rfl

theorem bigSep_KI (Φ : KI → sProp (MT nD τ sig Unit (Elt F) ℕ UU ℕ)) : bigSep Finset.univ Φ
    = iprop(Φ (.inl ()) ∗ bigSep Finset.univ fun k : NK => Φ (.inr k)) := by
  rw [BI.bigSep_univ_sum, bigSep_unit]; rfl

/-- One of the device's own pieces. -/
def low (i : Fin 4) : Fin 48 := ⟨i.val, by omega⟩
/-- A piece is one of the device's own or what a wire becomes. -/
def pieceOf : Fin 4 ⊕ Fin 44 → Fin 48
  | .inl i => low i
  | .inr x => wsuc x
theorem pieceOf_bij : Function.Bijective pieceOf := by
  refine ⟨fun a b h => ?_, fun p => ?_⟩
  · rcases a with i | x <;> rcases b with j | y <;> simp only [pieceOf] at h
    · exact congrArg Sum.inl (Fin.ext (by have := congrArg Fin.val h; exact this))
    · have := wsuc_ge y; rw [← h] at this; have := i.isLt; simp only [low] at *; omega
    · have := wsuc_ge x; rw [h] at this; have := j.isLt; simp only [low] at *; omega
    · rw [← wprd_wsuc x, h, wprd_wsuc]
  · by_cases h : p.val < 4
    · exact ⟨.inl ⟨p.val, h⟩, rfl⟩
    · exact ⟨.inr (wprd p), wsuc_wprd p (by omega)⟩
theorem bigSep_pieces (Φ : Fin 48 → sProp (MT nD τ sig Unit (Elt F) ℕ UU ℕ)) : bigSep Finset.univ Φ
    = iprop((bigSep Finset.univ fun i => Φ (low i)) ∗ bigSep Finset.univ fun x => Φ (wsuc x)) := by
  rw [bigSep_univ_equiv (Equiv.ofBijective pieceOf pieceOf_bij) Φ, BI.bigSep_univ_sum]; rfl

theorem fam_const {n : ℕ} (Φ : Fin n → ℕ → sProp (MT nD τ sig Unit (Elt F) ℕ UU ℕ)) {σ : Fin n → ℕ} (v : ℕ) (h : ∀ a, σ a = v) :
    fam Φ σ = bigSep Finset.univ fun a => Φ a v := bigSep_congr fun a _ => by rw [h a]

/-! ## What a device is dealt -/

/-- The tokens of the duties a device pays, its positions, its credit, its buffers. -/
def payToks : sProp 𝕄 :=
  iprop((bigSep Finset.univ fun d : Fin 3 => tk ((dirE d).symm c, kBar) d) ∗ tk (c, kW) 0 ∗ (bigSep Finset.univ fun q : Fin 4 => tk (c, kX q) 0)
    ∗ (bigSep Finset.univ fun x : Fin 44 => tk (c, kS x) 0) ∗ (bigSep Finset.univ fun x : Fin 44 => tk (wdst c x, kR x) 0)
    ∗ bigSep Finset.univ fun p : Fin 48 => tk (c, kC p) 0)
def poss : sProp 𝕄 :=
  iprop(ps (c, kBar) ∗ ps (c, kW) ∗ (bigSep Finset.univ fun q : Fin 4 => ps (c, kX q)) ∗ (bigSep Finset.univ fun x : Fin 44 => ps (c, kS x))
    ∗ (bigSep Finset.univ fun x : Fin 44 => ps (c, kR x)) ∗ bigSep Finset.univ fun p : Fin 48 => ps (c, kC p))
def crs : sProp 𝕄 := iprop(cr (c, kBar) 3 ∗ bigSep Finset.univ fun x : Fin 44 => cr (c, kR x) (crX (wnr x)))
/-- The scratch buffers at some contents. -/
def scr : sProp 𝕄 :=
  iprop((∃ f : Buf (Elt F) (lXS c), lXS c ↦{fullShare} f) ∗ (∃ f : Buf (Elt F) (lXF c), lXF c ↦{fullShare} f)
    ∗ (∃ f : Buf (Elt F) (lWF c), lWF c ↦{fullShare} f) ∗ (∃ f : Buf (Elt F) (lW8 c), lW8 c ↦{fullShare} f)
    ∗ (∃ f : Buf (Elt F) (lOB c), lOB c ↦{fullShare} f))
/-- The arrays it reads and writes itself: before, after. -/
def arr₀ : sProp 𝕄 := iprop((lX c ↦{fullShare} xb m c) ∗ (lW c ↦{fullShare} wb m c) ∗ ∃ f : Buf (Elt F) (lO c), lO c ↦{fullShare} f)
def arr₁ : sProp 𝕄 := iprop((lX c ↦{fullShare} xb m c) ∗ (lW c ↦{fullShare} wb m c) ∗ (lO c ↦{fullShare} OUT m c))

/-! ## Whole buffers and their pieces -/

theorem cut {ℓ : Loc nD τ sig} {I : Type} [Fintype I] [DecidableEq I] (S : I → Finset (Idx ℓ)) (hc : Finset.univ.biUnion S = Finset.univ)
    (ha : ∀ p ∈ (Finset.univ : Finset I), ∀ q ∈ (Finset.univ : Finset I), p ≠ q → Disjoint (S p) (S q)) (f : Buf (Elt F) ℓ) :
    (ℓ ↦{fullShare} f : sProp 𝕄) = bigSep Finset.univ fun i => (ℓ ↦[S i]{fullShare} f) := by
  rw [← pointsTo_biUnion Finset.univ S ha, hc]
theorem cutU {ℓ : Loc nD τ sig} {I : Type} [Fintype I] [DecidableEq I] (S : I → Finset (Idx ℓ)) (hc : Finset.univ.biUnion S = Finset.univ)
    (ha : ∀ p ∈ (Finset.univ : Finset I), ∀ q ∈ (Finset.univ : Finset I), p ≠ q → Disjoint (S p) (S q)) :
    (iprop(∃ f : Buf (Elt F) ℓ, ℓ ↦{fullShare} f) : sProp 𝕄) ⊢ bigSep Finset.univ fun i => iprop(∃ f : Buf (Elt F) ℓ, ℓ ↦[S i]{fullShare} f) := by
  iintro ⟨%f, H⟩
  iapply (BIBase.Entails.trans (Entails.of_eq (cut S hc ha f)) (bigSep_mono fun i _ => show (ℓ ↦[S i]{fullShare} f : sProp 𝕄) ⊢ iprop(∃ f : Buf (Elt F) ℓ, ℓ ↦[S i]{fullShare} f) from by iintro H; iexists f; iexact H))
  iexact H

/-- A piece that is not the device's own is what the wire it comes by writes. -/
theorem land (x : Fin 44) : (xsU (F := F) (wdst c x) (wsuc x) : sProp 𝕄) = dstU c x := by
  unfold xsU dstU; rw [land_ch, land_off, land_nr]
theorem wdst_wsrc (x : Fin 44) : wdst (wsrc c x) x = c := (dirE (wdir x)).apply_symm_apply c

theorem xs_cut : (iprop(∃ f : Buf (Elt F) (lXS c), lXS c ↦{fullShare} f) : sProp 𝕄)
    ⊢ iprop((bigSep Finset.univ fun i : Fin 4 => xsU c (low i)) ∗ bigSep Finset.univ fun d : Fin 3 => pay m ((dirE d).symm c) d kBar) := by
  refine (cutU (F := F) (ℓ := lXS c) (fun p : Fin 48 => box 4096 (pch c p) (poff p) (pnr p)) (box_cover 4096 c) (box_apart 4096 c)).trans ?_
  rw [show (fun p : Fin 48 => iprop(∃ f : Buf (Elt F) (lXS c), lXS c ↦[box 4096 (pch c p) (poff p) (pnr p)]{fullShare} f)) = (fun p => (xsU c p : sProp 𝕄)) from rfl,
    bigSep_pieces, fiber wdir (fun x : Fin 44 => (xsU c (wsuc x) : sProp 𝕄))]
  refine Entails.of_eq (congrArg _ (bigSep_congr fun d _ => ?_))
  show _ = bigSep (Finset.univ.filter fun x : Fin 44 => wdir x = d) fun x => dstU ((dirE d).symm c) x
  refine bigSep_congr fun x hx => ?_
  have hd : wdir x = d := (Finset.mem_filter.mp hx).2
  subst hd
  have := land (F := F) (wsrc c x) x
  rw [wdst_wsrc] at this
  exact this

/-! ## The start -/

theorem fA_low (i : Fin 4) : (fA m c (low i) 0 : sProp 𝕄) = xsU c (low i) := if_pos i.isLt
theorem fA_land (x : Fin 44) : (fA m c (wsuc x) 0 : sProp 𝕄) = iprop(cr (c, kR x) (crX (wnr x)) ∗ ps (c, kR x)) := by
  show (if _ then _ else _) = _
  rw [if_neg (by have := wsuc_ge x; omega), wprd_wsuc]

theorem σ_start : (∀ q, σX 0 0 q = 0) ∧ (∀ d, σG 0 d = 0) ∧ (∀ x, σS 0 0 0 x = 0) ∧ (∀ p, σA 0 p = 0) ∧ (∀ p, σC 0 0 p = 0) := by
  refine ⟨?_, ?_, ?_, ?_, ?_⟩ <;> intro _ <;> rfl

theorem state_start :
    iprop(recs m K ∗ (∃ W, owes (c : Thread nD τ) (owed c 0 0) W) ∗ payToks (F := F) c ∗ poss (F := F) c ∗ crs (F := F) c ∗ scr (F := F) c ∗ arr₀ m c ∗ SM m c)
      ⊢ St m K c 0 0 0 0 0 0 0 0 0 0 0 iprop(emp) := by
  obtain ⟨hX, hG, hS, hA, hC⟩ := σ_start
  unfold St
  rw [fam_const _ 0 hX, fam_const _ 0 hG, fam_const _ 0 hS, fam_const _ 0 hA, fam_const _ 0 hC]
  unfold payToks poss crs scr arr₀
  iintro ⟨Hr, HO, ⟨TB, TW, TX, TS, TR, TC⟩, ⟨PB, PW, PX, PS, PR, PC⟩, ⟨CB, CR⟩, ⟨HXS, HXF, HWF, HW8, HOB⟩, ⟨HX, HW, HU⟩, HSM⟩
  ihave ⟨HL, HP⟩ := (xs_cut m c) $$ HXS
  ihave HXF := (cutU (F := F) (ℓ := lXF c) (fun q : Fin 4 => rows 512 4096 (128 * q.val) 128) (quarter_cover 4096) (quarter_apart 4096)) $$ HXF
  ihave HX := (Entails.of_eq (cut (F := F) (ℓ := lX c) (fun q : Fin 4 => rows 512 4096 (128 * q.val) 128) (quarter_cover 4096) (quarter_apart 4096) (xb m c))) $$ HX
  ihave HOB := (cutU (F := F) (ℓ := lOB c) (fun p : Fin 48 => box 256 (pch c p) (poff p) (pnr p)) (box_cover 256 c) (box_apart 256 c)) $$ HOB
  ihave HU := (cutU (F := F) (ℓ := lO c) (fun p : Fin 48 => rows 4096 256 (512 * pch c p + poff p) (pnr p)) (rows_cover 256 c) (rows_apart 256 c)) $$ HU
  isplitl [Hr]; · iexact Hr
  isplitl [HO]; · iexact HO
  isplitl [HX HXF TX PX]
  · iapply (Entails.of_eq (show (iprop((bigSep Finset.univ fun q : Fin 4 => xhP m c q) ∗ (bigSep Finset.univ fun q : Fin 4 => xfU c q)
        ∗ (bigSep Finset.univ fun q : Fin 4 => tk (c, kX q) 0) ∗ bigSep Finset.univ fun q : Fin 4 => ps (c, kX q)) : sProp 𝕄)
        = bigSep Finset.univ fun q : Fin 4 => fX m c q 0 from by rw [show (fun q : Fin 4 => fX m c q 0) = (fun q : Fin 4 => (iprop(xhP m c q ∗ xfU c q ∗ tk (c, kX q) 0 ∗ ps (c, kX q)) : sProp 𝕄)) from rfl]; simp only [bigSep_sep']))
    isplitl [HX]; · iexact HX
    isplitl [HXF]; · iexact HXF
    isplitl [TX]; · iexact TX
    iexact PX
  isplitl [HW HWF TW PW]
  · rw [show (fW m c 0 : sProp 𝕄) = iprop(whP m c ∗ wfU c ∗ tk (c, kW) 0 ∗ ps (c, kW)) from rfl]
    isplitl [HW]; · unfold whP; iexact HW
    isplitl [HWF]; · unfold wfU; iexact HWF
    isplitl [TW]; · iexact TW
    iexact PW
  isplitl [HW8]; · rw [show (fE m c 0 : sProp 𝕄) = iprop(∃ f : Buf (Elt F) (lW8 c), lW8 c ↦{fullShare} f) from rfl]; iexact HW8
  isplitl [TB HP]
  · iapply (Entails.of_eq (show (iprop((bigSep Finset.univ fun d : Fin 3 => tk ((dirE d).symm c, kBar) d) ∗ (bigSep Finset.univ fun d : Fin 3 => pay m ((dirE d).symm c) d kBar)) : sProp 𝕄)
        = bigSep Finset.univ fun d : Fin 3 => fG m c d 0 from by rw [show (fun d : Fin 3 => fG m c d 0) = (fun d : Fin 3 => (iprop(tk ((dirE d).symm c, kBar) d ∗ pay m ((dirE d).symm c) d kBar) : sProp 𝕄)) from rfl]; simp only [bigSep_sep']))
    isplitl [TB]; · iexact TB
    iexact HP
  isplitl [CB PB]
  · rw [show (fB c 0 : sProp 𝕄) = iprop(cr (c, kBar) 3 ∗ ps (c, kBar)) from rfl]
    isplitl [CB]; · iexact CB
    iexact PB
  isplitl [TS PS TR]
  · iapply (Entails.of_eq (show (iprop((bigSep Finset.univ fun x : Fin 44 => tk (c, kS x) 0) ∗ (bigSep Finset.univ fun x : Fin 44 => ps (c, kS x)) ∗ (bigSep Finset.univ fun x : Fin 44 => tk (wdst c x, kR x) 0)) : sProp 𝕄)
        = bigSep Finset.univ fun x : Fin 44 => fS m c x 0 from by rw [show (fun x : Fin 44 => fS m c x 0) = (fun x : Fin 44 => (iprop(tk (c, kS x) 0 ∗ ps (c, kS x) ∗ tk (wdst c x, kR x) 0) : sProp 𝕄)) from rfl]; simp only [bigSep_sep']))
    isplitl [TS]; · iexact TS
    isplitl [PS]; · iexact PS
    iexact TR
  isplitl [HL CR PR]
  · rw [bigSep_pieces, bigSep_congr (s := Finset.univ) (fun i _ => fA_low m c i), bigSep_congr (s := Finset.univ) (fun x _ => fA_land m c x), bigSep_sep']
    isplitl [HL]; · iexact HL
    isplitl [CR]; · iexact CR
    iexact PR
  isplitl [HOB HU TC PC]
  · iapply (Entails.of_eq (show (iprop((bigSep Finset.univ fun p : Fin 48 => obU c p) ∗ (bigSep Finset.univ fun p : Fin 48 => ouU c p)
        ∗ (bigSep Finset.univ fun p : Fin 48 => tk (c, kC p) 0) ∗ bigSep Finset.univ fun p : Fin 48 => ps (c, kC p)) : sProp 𝕄)
        = bigSep Finset.univ fun p : Fin 48 => fC m c p 0 from by rw [show (fun p : Fin 48 => fC m c p 0) = (fun p : Fin 48 => (iprop(obU c p ∗ ouU c p ∗ tk (c, kC p) 0 ∗ ps (c, kC p)) : sProp 𝕄)) from rfl]; simp only [bigSep_sep']))
    isplitl [HOB]; · iexact HOB
    isplitl [HU]; · iexact HU
    isplitl [TC]; · iexact TC
    iexact PC
  isplitl [HSM]; · iexact HSM
  iempintro

/-! ## The end -/

theorem σ_end : (∀ q, σX 4 4 q = 2) ∧ (∀ d, σG 3 d = 1) ∧ (∀ x, σS 1 44 44 x = 3) ∧ (∀ p, σA 48 p = 1) ∧ (∀ p, σC 96 48 p = 3) := by
  refine ⟨?_, ?_, ?_, ?_, ?_⟩ <;> decide +kernel

/-- The shares a piece's wires borrowed and the one that stayed are the piece. -/
theorem piece_join (p : Fin 48) : iprop((bigSep (Finset.univ.filter fun x : Fin 44 => wpc x = p) fun x => srcP m c x) ∗ xsP m c p (ksh p)) ⊢ xsP m c p fullShare := by
  rw [wires_of p]
  by_cases h : p.val < 4
  · rw [dif_pos h]
    have ho : own ⟨arank p, by unfold arank; split_ifs <;> omega⟩ = p := by
      revert p; decide +kernel
    obtain ⟨-, h2, h3, h4, -, h6⟩ := own_facts c ⟨arank p, by unfold arank; split_ifs <;> omega⟩
    have hs := own_split m c ⟨arank p, by unfold arank; split_ifs <;> omega⟩
    rw [ho] at h2 h3 h4 h6 hs
    unfold xsP
    rw [h6, h2, h3, h4]
    refine BIBase.Entails.trans ?_ hs.2
    unfold xsP
    rw [h2, h3, h4]
    rw [bigSep_insert (by simp), bigSep_insert (by simp), bigSep_singleton]
    exact Entails.refl _
  · rw [dif_neg h]
    by_cases h' : p.val < 36
    · rw [dif_pos h', bigSep_singleton]
      exact (relay_split m c p (by omega) h').2
    · rw [dif_neg h', bigSep_empty]
      unfold ksh; rw [if_neg h']
      iintro ⟨-, H⟩; iexact H

theorem xs_join : iprop((bigSep Finset.univ fun x : Fin 44 => srcP m c x) ∗ bigSep Finset.univ fun p : Fin 48 => xsP m c p (ksh p)) ⊢ (lXS c ↦{fullShare} XS m) := by
  rw [fiber wpc (fun x : Fin 44 => (srcP m c x : sProp 𝕄)), cut (F := F) (ℓ := lXS c) (fun p : Fin 48 => box 4096 (pch c p) (poff p) (pnr p)) (box_cover 4096 c) (box_apart 4096 c)]
  refine (Entails.of_eq (bigSep_sep' _ _ _).symm).trans (bigSep_mono fun p _ => piece_join m c p)

theorem fA_low1 (i : Fin 4) : (fA m c (low i) 1 : sProp 𝕄) = xsP m c (low i) (ksh (low i)) := if_pos i.isLt
theorem fA_land1 (x : Fin 44) : (fA m c (wsuc x) 1 : sProp 𝕄) = iprop(zs (c, kR x) ∗ xsP m c (wsuc x) (ksh (wsuc x))) := by
  show (if _ then _ else _) = _
  rw [if_neg (by have := wsuc_ge x; omega), wprd_wsuc]

/-- The cells' semaphores back at zero. -/
def zers : sProp 𝕄 :=
  iprop(zs (c, kW) ∗ (bigSep Finset.univ fun q : Fin 4 => zs (c, kX q)) ∗ (bigSep Finset.univ fun x : Fin 44 => zs (c, kS x))
    ∗ (bigSep Finset.univ fun x : Fin 44 => zs (c, kR x)) ∗ bigSep Finset.univ fun p : Fin 48 => zs (c, kC p))

theorem state_end :
    St m K c 4 4 2 1 3 1 44 44 48 96 48 iprop(emp)
      ⊢ iprop((∃ W, owes (c : Thread nD τ) 0 W) ∗ zs (c, kBar) ∗ zers (F := F) c ∗ scr (F := F) c ∗ arr₁ m c ∗ SM m c) := by
  obtain ⟨hX, hG, hS, hA, hC⟩ := σ_end
  unfold St
  rw [fam_const _ 2 hX, fam_const _ 1 hG, fam_const _ 3 hS, fam_const _ 1 hA, fam_const _ 3 hC,
    show owed c 3 44 = 0 from by unfold owed; rw [owedW_end]; exact zero_add _]
  unfold zers scr arr₁
  rw [bigSep_pieces, bigSep_congr (s := Finset.univ) (fun i _ => fA_low1 m c i), bigSep_congr (s := Finset.univ) (fun x _ => fA_land1 m c x), bigSep_sep']
  iintro ⟨-, HO, HX, HW, HE, -, HB, HS, ⟨HA, HZR, HR⟩, HC, HSM, -⟩
  ihave ⟨ZX, XF, XH⟩ := (Entails.of_eq (show (bigSep Finset.univ (fun q : Fin 4 => fX m c q 2) : sProp 𝕄)
      = iprop((bigSep Finset.univ fun q : Fin 4 => zs (c, kX q)) ∗ (bigSep Finset.univ fun q : Fin 4 => xfP m c q) ∗ bigSep Finset.univ fun q : Fin 4 => xhP m c q) from by rw [show (fun q : Fin 4 => fX m c q 2) = (fun q : Fin 4 => (iprop(zs (c, kX q) ∗ xfP m c q ∗ xhP m c q) : sProp 𝕄)) from rfl]; simp only [bigSep_sep'])) $$ HX
  ihave ⟨ZS, SP⟩ := (Entails.of_eq (show (bigSep Finset.univ (fun x : Fin 44 => fS m c x 3) : sProp 𝕄)
      = iprop((bigSep Finset.univ fun x : Fin 44 => zs (c, kS x)) ∗ bigSep Finset.univ fun x : Fin 44 => srcP m c x) from by rw [show (fun x : Fin 44 => fS m c x 3) = (fun x : Fin 44 => (iprop(zs (c, kS x) ∗ srcP m c x) : sProp 𝕄)) from rfl]; simp only [bigSep_sep'])) $$ HS
  ihave ⟨ZC, OU, OB⟩ := (Entails.of_eq (show (bigSep Finset.univ (fun p : Fin 48 => fC m c p 3) : sProp 𝕄)
      = iprop((bigSep Finset.univ fun p : Fin 48 => zs (c, kC p)) ∗ (bigSep Finset.univ fun p : Fin 48 => ouP m c p) ∗ bigSep Finset.univ fun p : Fin 48 => obP m c p) from by rw [show (fun p : Fin 48 => fC m c p 3) = (fun p : Fin 48 => (iprop(zs (c, kC p) ∗ ouP m c p ∗ obP m c p) : sProp 𝕄)) from rfl]; simp only [bigSep_sep'])) $$ HC
  ihave HW := (Entails.of_eq (show (fW m c 2 : sProp 𝕄) = iprop(zs (c, kW) ∗ wfP m c ∗ whP m c) from rfl)) $$ HW
  ihave HB := (Entails.of_eq (show (fB c 1 : sProp 𝕄) = zs (c, kBar) from rfl)) $$ HB
  ihave HE := (Entails.of_eq (show (fE m c 1 : sProp 𝕄) = (lW8 c ↦{fullShare} W8 m c) from rfl)) $$ HE
  icases HW with ⟨ZW, WF, WH⟩
  isplitl [HO]; · iexact HO
  isplitl [HB]; · iexact HB
  isplitl [ZW ZX ZS HZR ZC]
  · isplitl [ZW]; · iexact ZW
    isplitl [ZX]; · iexact ZX
    isplitl [ZS]; · iexact ZS
    isplitl [HZR]; · iexact HZR
    iexact ZC
  isplitl [HA HR SP XF WF HE OB]
  · isplitl [HA HR SP]
    · iexists (XS m)
      iapply (xs_join m c)
      isplitl [SP]; · iexact SP
      rw [bigSep_pieces]
      isplitl [HA]; · iexact HA
      iexact HR
    isplitl [XF]
    · iexists (xb m c)
      iapply (Entails.of_eq (cut (F := F) (ℓ := lXF c) (fun q : Fin 4 => rows 512 4096 (128 * q.val) 128) (quarter_cover 4096) (quarter_apart 4096) (xb m c)).symm)
      iexact XF
    isplitl [WF]; · iexists (wb m c); unfold wfP; iexact WF
    isplitl [HE]; · iexists (W8 m c); iexact HE
    iexists (OB m c)
    iapply (Entails.of_eq (cut (F := F) (ℓ := lOB c) (fun p : Fin 48 => box 256 (pch c p) (poff p) (pnr p)) (box_cover 256 c) (box_apart 256 c) (OB m c)).symm)
    iexact OB
  isplitl [XH WH OU]
  · isplitl [XH]
    · iapply (Entails.of_eq (cut (F := F) (ℓ := lX c) (fun q : Fin 4 => rows 512 4096 (128 * q.val) 128) (quarter_cover 4096) (quarter_apart 4096) (xb m c)).symm)
      iexact XH
    isplitl [WH]; · unfold whP; iexact WH
    iapply (Entails.of_eq (cut (F := F) (ℓ := lO c) (fun p : Fin 48 => rows 4096 256 (512 * pch c p + poff p) (pnr p)) (rows_cover 256 c) (rows_apart 256 c) (OUT m c)).symm)
    iexact OU
  iexact HSM

end Cert.GatherProof

end
-- ==== Proof.Deal.lean ====
/-
# What the launch deals the devices

The exchange's cells are opened once for the whole mesh. The launch mints every cell's tokens at the device that owns it
and hands each to the device that pays it; the credit the devices owe one another arrives at the cells it is owed to.
-/
module

public import proofs.«01_k».proof.Proof.Ends
public import proofs.«01_k».proof.Proof.Gen.KernelIdeal.Launch
public import Idealize.ShloMosaic.Lib.Pipeline.Launch
public import Idealize.ShloMosaic.Lib.Pipeline.Kit

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The kernel's semaphores -/

/-- The semaphores the kernel allocates: all its cells but the barrier. -/
def osem (k : NK) : SemLoc sig := csem (.inr k)

theorem scoped_all : ∀ i : Fin 143, (SemLoc.dma i : SemLoc sig).isScoped .tc = true := by decide +kernel
theorem win_low : ∀ (w : Fin 2) (s : Fin (spec0 w).nbuf), ((spec0 w).sem s).val < 2 := by decide +kernel

theorem ownSemFacts : Pipeline.OwnSemFacts cfg0.spec osem where
  isScoped k := scoped_all ⟨kN (.inr k), kN_lt _⟩
  inj k k' h := Sum.inr.inj (csem_inj h)
  disj k w s h := by
    have h1 := kN_ge (.inr k) (fun h => by cases h)
    have h2 := win_low w s
    have h3 : (⟨kN (.inr k), kN_lt _⟩ : DmaSem sig) = (spec0 w).sem s := SemLoc.dma.inj h
    rw [← h3] at h2
    exact absurd h2 (by show ¬ kN (.inr k) < 2; omega)

theorem ownSems0_eq (c : Dev nD) : (Pipeline.ownSems0 (Ix := Unit) (Name := ℕ) (U := UU) (Lvl := ℕ) (Val := Elt F) (τ := τ) osem c : sProp 𝕄)
    = bigSep Finset.univ fun k : NK => zs (c, .inr k) := rfl
theorem unscopedSems0_eq (c : Dev nD) : (unscopedSems0 c : sProp 𝕄) = zs (c, kBar) := by
  unfold unscopedSems0; rw [bigSep_eq_bigSepL_of_eq [SemLoc.reg barS] (by decide) (by decide)]; rfl

/-! ## The tokens -/

def cells : Finset (GSem nD τ sig) := Finset.univ.map ⟨kcell, kcell_injective⟩

/-- The tokens as minted: a device's barrier has three, every other cell of its one. -/
def tokOf (ci : Dev nD × (Fin 3 ⊕ NK)) : GSem nD τ sig × ℕ × Fin 3 := match ci.2 with
  | .inl d => (kcell (ci.1, kBar), 0, d)
  | .inr k => (kcell (ci.1, .inr k), 0, 0)
theorem tokOf_injective : Function.Injective tokOf := by
  rintro ⟨c, i⟩ ⟨c', i'⟩ h
  rcases i with d | k <;> rcases i' with d' | k' <;> simp only [tokOf] at h
  · have h1 := kcell_injective (congrArg Prod.fst h)
    have h2 : d = d' := congrArg (fun t : GSem nD τ sig × ℕ × Fin 3 => t.2.2) h
    rw [show c = c' from congrArg Prod.fst h1, h2]
  · exact absurd (congrArg Prod.snd (kcell_injective (congrArg Prod.fst h))) (fun h => by cases h)
  · exact absurd (congrArg Prod.snd (kcell_injective (congrArg Prod.fst h))) (fun h => by cases h)
  · have h1 := kcell_injective (congrArg Prod.fst h)
    rw [show c = c' from congrArg Prod.fst h1, show k = k' from Sum.inr.inj (congrArg Prod.snd h1)]
def minted : Finset (GSem nD τ sig × ℕ × Fin 3) := Finset.univ.map ⟨tokOf, tokOf_injective⟩

def u₀ : UU := (initOf (Pipeline.cells cfgs cellOf_inj) (Pipeline.launchToks cfgs cellOf_inj), initOf cells minted)

/-- The tokens of a device's own cells. -/
def toks (c : Dev nD) : sProp 𝕄 :=
  iprop((bigSep Finset.univ fun d : Fin 3 => tk (c, kBar) d) ∗ bigSep Finset.univ fun k : NK => tk (c, .inr k) 0)

def G (c : Dev nD) : sProp 𝕄 :=
  iprop((bigSep Finset.univ fun k : KI => roundState ER (Rd m) (kcell (c, k)) 0)
    ∗ (bigSep Finset.univ fun k : KI => iprop(ps (c, k) ∗ reached ER (kcell (c, k)) 0)) ∗ toks c)

/-- The cells' invariants, and that all are at round 0. -/
def recs₀ (K : Dev nD × KI → ℕ) : sProp 𝕄 :=
  iprop((bigSep Finset.univ fun ck : Dev nD × KI => cellInv ER (Rd m) (K ck) (kcell ck)) ∗ bigSep Finset.univ fun ck : Dev nD × KI => reached ER (kcell ck) 0)
instance recs₀_persistent (K : Dev nD × KI → ℕ) : BI.Persistent (recs₀ (F := F) m K) := by unfold recs₀; infer_instance

def G' (c : Dev nD) : sProp 𝕄 := iprop(∃ K, recs₀ m K ∗ poss (F := F) c ∗ payToks (F := F) c)

theorem fund_cells : BI.own (ER (initOf cells minted)) ⊢ (|==> bigSep Finset.univ (G m) : sProp 𝕄) := by
  have hX (Φ : GSem nD τ sig → sProp 𝕄) : bigSep cells Φ = bigSep Finset.univ fun c : Dev nD => bigSep Finset.univ fun k : KI => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod]
    exact bigSep_congr fun c _ => by unfold toks; rw [BI.bigSep_univ_sum]; rfl
  iintro HX
  imod (Rounds.fund ER (Rd m) cells minted) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(ps (c, k) ∗ reached ER (kcell (c, k)) 0)) ∗ toks c) := by
  unfold G
  rw [ownSems0_eq, unscopedSems0_eq]
  iintro ⟨Hos, Hus, Hst, Hat, Htok⟩
  imod (show iprop((zs (c, kBar) ∗ bigSep Finset.univ fun k : NK => zs (c, .inr k)) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_KI (fun k : KI => (zs (c, k) : sProp 𝕄)), ← bigSep_sep']
        exact (bigSep_mono fun k _ => (Rounds.body_intro ER (Rd m) (kcell (c, k))).trans inv_alloc).trans (bigSep_fupd _ _)) $$ [Hos Hus Hst] with Hinv
  · isplitl [Hos Hus]
    · isplitl [Hus] <;> iassumption
    · iexact Hst
  imodintro
  isplitl [Hinv]; · iexact Hinv
  isplitl [Hat]; · iexact Hat
  iexact Htok

theorem swap {A B : Type} [Fintype A] [Fintype B] (Φ : A → B → sProp (MT nD τ sig Unit (Elt F) ℕ UU ℕ)) :
    (bigSep Finset.univ fun a => bigSep Finset.univ fun b => Φ a b) = bigSep Finset.univ fun b => bigSep Finset.univ fun a => Φ a b := by
  rw [← bigSep_univ_prod (fun ab : A × B => Φ ab.1 ab.2), ← bigSep_univ_prod (fun ba : B × A => Φ ba.2 ba.1), bigSep_univ_equiv (Equiv.prodComm B A)]
  rfl

/-- Every token handed to the device that pays it: a barrier's three to the three devices that signal it, a receiving
    cell's to the device the wire comes from. -/
theorem toks_around : (bigSep Finset.univ fun c : Dev nD => (toks c : sProp 𝕄)) ⊢ bigSep Finset.univ fun c : Dev nD => payToks c := by
  have h1 : (bigSep Finset.univ fun c : Dev nD => bigSep Finset.univ fun d : Fin 3 => (tk (c, kBar) d : sProp 𝕄))
      = bigSep Finset.univ fun c : Dev nD => bigSep Finset.univ fun d : Fin 3 => tk ((dirE d).symm c, kBar) d := by
    rw [swap, swap (fun (c : Dev nD) (d : Fin 3) => (tk ((dirE d).symm c, kBar) d : sProp 𝕄))]
    exact bigSep_congr fun d _ => bigSep_univ_equiv (dirE d).symm fun c => (tk (c, kBar) d : sProp 𝕄)
  have h2 : (bigSep Finset.univ fun c : Dev nD => bigSep Finset.univ fun x : Fin 44 => (tk (c, kR x) 0 : sProp 𝕄))
      = bigSep Finset.univ fun c : Dev nD => bigSep Finset.univ fun x : Fin 44 => tk (wdst c x, kR x) 0 := by
    rw [swap, swap (fun (c : Dev nD) (x : Fin 44) => (tk (wdst c x, kR x) 0 : sProp 𝕄))]
    exact bigSep_congr fun x _ => bigSep_univ_equiv (dirE (wdir x)) fun c => (tk (c, kR x) 0 : sProp 𝕄)
  unfold toks payToks
  simp only [bigSep_NK, bigSep_sep']
  rw [h1, h2]

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : KI => (ps (c, k) : sProp 𝕄)) = poss c := by
  unfold poss; rw [bigSep_KI, bigSep_NK]

theorem regroup :
    (bigSep Finset.univ fun c : Dev nD => iprop((bigSep Finset.univ fun k => iprop(∃ κ : ℕ, cellInv ER (Rd m) κ (kcell (c, k))))
          ∗ (bigSep Finset.univ fun k => iprop(ps (c, k) ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (Rd m) κ (kcell ck))),
    bigSep_congr (s := Finset.univ) (fun (c : Dev nD) _ => bigSep_sep' Finset.univ (fun k : KI => (ps (c, k) : sProp 𝕄)) (fun k => reached ER (kcell (c, k)) 0)),
    bigSep_sep', ← bigSep_univ_prod (fun ck : Dev nD × KI => (reached ER (kcell ck) 0 : sProp 𝕄)),
    bigSep_congr (s := Finset.univ) (fun (c : Dev nD) _ => poss_eq (F := F) c)]
  classical
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (with_persistent (R := recs₀ m K) (Φ := fun c => iprop(poss (F := F) c ∗ payToks (F := F) c)) (Ψ := G' m) fun c _ => by
    unfold G'
    iintro H; iexists K; iexact H)
  isplitr
  · unfold recs₀; isplitl; · iexact HI
    iexact HR
  · rw [bigSep_sep']
    isplitl [Hat]; · iexact Hat
    iexact Htk

/-- The semaphores of every device opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What a device owes when it starts. -/
abbrev O₀ (c : Dev nD) : CellTallies nD τ sig Unit := owed c 0 0

theorem tally_k (ck ck' : Dev nD × KI) (n : ℕ) :
    (tallyAt (kcell ck) () n : CellTallies nD τ sig Unit) (kcell ck') () = if ck' = ck then n else 0 := by
  rw [tallyAt_apply]
  by_cases h : ck' = ck
  · rw [if_pos h, if_pos ⟨congrArg kcell h, rfl⟩]
  · rw [if_neg h, if_neg fun h' => h (kcell_injective h'.1)]

theorem owedW_at (d c : Dev nD) (k : KI) : owedW d 0 (kcell (c, k)) () = ∑ x : Fin 44, if (c, k) = (wdst d x, kR x) then crX (wnr x) else 0 := by
  unfold owedW
  rw [Finset.sum_apply, Finsupp.finset_sum_apply, Finset.filter_true_of_mem (fun x _ => Nat.zero_le _)]
  exact Finset.sum_congr rfl fun x _ => tally_k _ _ _

theorem owed_bar (d c : Dev nD) : O₀ d (kcell (c, kBar)) () = ∑ i : Fin 3, if d = dirE i c then 1 else 0 := by
  have hi (i : Fin 3) : (tallyAt (kcell ((dirE i).symm d, kBar)) () 1 : CellTallies nD τ sig Unit) (kcell (c, kBar)) () = if d = dirE i c then 1 else 0 := by
    rw [tally_k]
    refine if_congr ⟨fun h => ?_, fun h => ?_⟩ rfl rfl
    · rw [show c = (dirE i).symm d from congrArg Prod.fst h, Equiv.apply_symm_apply]
    · rw [h, Equiv.symm_apply_apply]
  unfold O₀ owed
  rw [Pi.add_apply, Finsupp.add_apply, owedW_at, Finset.sum_eq_zero (fun x _ => if_neg fun h => by cases congrArg Prod.snd h),
    show owedB d 0 = tallyAt (kcell ((dirE 2).symm d, kBar)) () 1 + tallyAt (kcell ((dirE 1).symm d, kBar)) () 1 + tallyAt (kcell ((dirE 0).symm d, kBar)) () 1 from rfl,
    Pi.add_apply, Finsupp.add_apply, Pi.add_apply, Finsupp.add_apply, hi, hi, hi, Fin.sum_univ_three]
  omega

theorem owed_recv (d c : Dev nD) (x : Fin 44) : O₀ d (kcell (c, kR x)) () = if d = wsrc c x then crX (wnr x) else 0 := by
  have hB (i : Fin 3) : (tallyAt (kcell ((dirE i).symm d, kBar)) () 1 : CellTallies nD τ sig Unit) (kcell (c, kR x)) () = 0 := by
    rw [tally_k]; exact if_neg fun h => by cases congrArg Prod.snd h
  unfold O₀ owed
  rw [Pi.add_apply, Finsupp.add_apply, owedW_at,
    show owedB d 0 = tallyAt (kcell ((dirE 2).symm d, kBar)) () 1 + tallyAt (kcell ((dirE 1).symm d, kBar)) () 1 + tallyAt (kcell ((dirE 0).symm d, kBar)) () 1 from rfl,
    Pi.add_apply, Finsupp.add_apply, Pi.add_apply, Finsupp.add_apply, hB, hB, hB, Nat.add_zero,
    Finset.sum_eq_single x (fun x' _ hne => if_neg fun h => hne (by
      have h2 : kR x = kR x' := congrArg Prod.snd h
      simp only [kR, Sum.inr.injEq, Sum.inl.injEq] at h2
      exact h2.symm)) (fun h => absurd (Finset.mem_univ _) h)]
  refine if_congr ⟨fun h => ?_, fun h => ?_⟩ rfl rfl
  · rw [show c = wdst d x from congrArg Prod.fst h]
    exact ((dirE (wdir x)).symm_apply_apply d).symm
  · rw [h, wdst_wsrc]

theorem launch_at (c : Dev nD) (k : KI) (n : ℕ) (h : ∑ d, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem launch_bar (c : Dev nD) : ∑ d, O₀ d (kcell (c, kBar)) () = 3 := by
  rw [Finset.sum_congr rfl fun d _ => owed_bar d c, Finset.sum_comm,
    Finset.sum_congr rfl fun i _ => Finset.sum_ite_eq' Finset.univ (dirE i c) fun _ => 1]
  simp only [Finset.mem_univ, if_true, Finset.sum_const, Finset.card_univ, Fintype.card_fin]; rfl
theorem launch_recv (c : Dev nD) (x : Fin 44) : ∑ d, O₀ d (kcell (c, kR x)) () = crX (wnr x) := by
  rw [Finset.sum_congr rfl fun d _ => owed_recv d c x, Finset.sum_ite_eq' Finset.univ (wsrc c x) fun _ => crX (wnr x), if_pos (Finset.mem_univ _)]

theorem creds (c : Dev nD) : (Pipeline.launchCred O₀ c : sProp 𝕄) ⊢ crs c := by
  classical
  have key : (Pipeline.launchCred O₀ c : sProp 𝕄)
      ⊢ bigSep Finset.univ fun k : KI => cred (tallyOn (kcell (c, k)) (launchCredit (Pipeline.owing O₀) 0 (kcell (c, k)))) := by
    unfold Pipeline.launchCred
    refine BIBase.Entails.trans (BI.bigSep_subset (t := Finset.univ.map ⟨csem, csem_inj⟩) (Finset.subset_univ _)) ?_
    rw [bigSep_map]
    exact BIBase.Entails.rfl
  refine BIBase.Entails.trans key ?_
  unfold crs
  rw [bigSep_KI, bigSep_NK, launch_at c kBar 3 (launch_bar c),
    bigSep_congr (s := Finset.univ) (fun (x : Fin 44) _ => congrArg (cred (Val := Elt F) (Name := ℕ) (U := UU) (Lvl := ℕ)) (launch_at c (kR x) _ (launch_recv c x)))]
  iintro ⟨HB, -, -, -, HR, -⟩
  isplitl [HB]
  · iexact HB
  · iexact HR

end Cert.GatherProof

end
-- ==== Proof.Launch.lean ====
/-
# The run of the whole mesh

The kernel's run, from the body's: what the launch deals a device is the state its body starts in, the state it ends in
gives back the buffers and the semaphores, and the arrays are read off at the end.
-/
module

public import proofs.«01_k».proof.Proof.Deal
public import proofs.«01_k».proof.Proof.Gen.KernelIdeal.Points
public import Idealize.ShloMosaic.Lib.Pipeline.CollectiveSegs
public import Idealize.ShloMosaic.Lib.Tactic

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel body on its buffers. -/
abbrev theBody : Prog (TpuEff nD τ sig (Elt F) Λ₀ .tc) PUnit :=
  cc0_body (Memref.whole main_arg0) (Memref.isWhole_whole _) (Memref.whole main_arg1) (Memref.isWhole_whole _) (Memref.whole cc0_stg0_0) (Memref.isWhole_whole _)
    (Memref.whole cc0_stg1_0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10 cc0_scratch11

/-- The body takes a device from its first state to its last. -/
def BodyRuns (F : FTy → Type) [FloatOps F] : Prop :=
  ∀ (m : (ℓ : Loc nD τ sig) → Buf (Elt F) ℓ) (K : Dev nD × KI → ℕ) (c : Dev nD),
    St m K c 0 0 0 0 0 0 0 0 0 0 0 iprop(emp) ⊢ W1 c (theBody (F := F)) fun _ => St m K c 4 4 2 1 3 1 44 44 48 96 48 iprop(emp)

/-! ## The proof data -/

/-- What a device starts from besides its scratch buffers. -/
def start (c : Dev nD) : sProp 𝕄 := iprop((∃ K, recs m K ∗ poss (F := F) c ∗ payToks (F := F) c) ∗ crs (F := F) c ∗ arr₀ m c)
def Φ₀ (c : Dev nD) : sProp 𝕄 := iprop(start m c ∗ scr (F := F) c)
def Φ₁ (c : Dev nD) : sProp 𝕄 := iprop(zs (c, kBar) ∗ zers (F := F) c ∗ scr (F := F) c ∗ arr₁ m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxb m c
    | ⟨1, _⟩ => swb m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

theorem bigSep_W (Φ : Fin cfg0.W → sProp (MT nD τ sig Unit (Elt F) ℕ UU ℕ)) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem one_pos (i j : S1.Idx) : i = j := funext fun t => by
  obtain rfl : t = 0 := Subsingleton.elim _ _
  exact Subsingleton.elim (α := Fin 1) _ _
theorem before0 (c : Dev nD) (d) : (dats m ρ 0 c).before (0 : Fin 2) t0_0 d = sxb m c := by
  unfold Dat.before; rw [if_pos (fetch0_0 t0_0)]
  exact funext fun i => congrArg (sxb m c) (one_pos _ _)
theorem before1 (c : Dev nD) (d) : (dats m ρ 0 c).before (1 : Fin 2) t0_0 d = swb m c := by
  unfold Dat.before; rw [if_pos (fetch0_1 t0_0)]
  exact funext fun i => congrArg (swb m c) (one_pos _ _)

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (sxb m c) ∗ stg c cc0_stg1_0 (swb m c))

theorem pre_state (c : Dev nD) : bodyPre m ρ c ⊢ iprop(∃ K, St m K c 0 0 0 0 0 0 0 0 0 0 0 iprop(emp)) := by
  unfold bodyPre Φ₀ start
  iintro ⟨⟨⟨⟨%K, #Hr, HP, HT⟩, HC, HA⟩, HS⟩, Ho, ⟨%d0, %g0, %hg0, Hx⟩, ⟨%d1, %g1, %hg1, Hw⟩⟩
  rw [before0] at hg0
  rw [before1] at hg1
  subst hg0 hg1
  unfold Dat.owesAt Pipeline.owesWithin
  icases Ho with ⟨%W, %hW, HO⟩
  rw [show (dats m ρ 0 c).owed t0_0.castSucc = O₀ c from rfl]
  iexists K
  iapply (state_start m K c)
  isplitr; · iexact Hr
  isplitl [HO]; · iexists W; iexact HO
  isplitl [HT]; · iexact HT
  isplitl [HP]; · iexact HP
  isplitl [HC]; · iexact HC
  isplitl [HS]; · iexact HS
  isplitl [HA]; · iexact HA
  unfold SM
  isplitl [Hx]; · iexact Hx
  iexact Hw

theorem state_post (K : Dev nD × KI → ℕ) (c : Dev nD) : St m K c 4 4 2 1 3 1 44 44 48 96 48 iprop(emp) ⊢ bodyPost m ρ c := by
  refine BIBase.Entails.trans (state_end m K c) ?_
  unfold bodyPost Φ₁ SM Dat.owesAt Pipeline.owesWithin
  rw [show (dats m ρ 0 c).owed t0_0.succ = 0 from rfl]
  iintro ⟨⟨%W, HO⟩, HB, HZ, HS, HA, Hx, Hw⟩
  isplitl [HB HZ HS HA]
  · isplitl [HB]; · iexact HB
    isplitl [HZ]; · iexact HZ
    isplitl [HS]; · iexact HS
    iexact HA
  isplitl [HO]
  · iexists W
    isplitr; · (ipureintro; exact fun _ _ => Or.inl trivial)
    iexact HO
  isplitl [Hx]
  · iexists _; isplitr; · (ipureintro; rfl)
    iexact Hx
  · iexists _; isplitr; · (ipureintro; rfl)
    iexact Hw

set_option maxRecDepth 100000 in
theorem body_obligation (hB : BodyRuns F) (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ W1 c (theBody (F := F)) (fun _ => bodyPost m ρ c)
  refine BIBase.Entails.trans (pre_state m ρ c) ?_
  iintro ⟨%K, H⟩
  iapply (BIBase.Entails.trans (hB m K c) (wp_mono frame _ Set.univ fun _ => state_post m ρ K c))
  iexact H

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Pipeline.unscopedRest spec0 c (fun b => m ((c : Thread nD τ).loc b)) from rfl, unscopedRest0_eq]
  iintro ⟨⟨HX, HW, HO⟩, Hlev, Hcr, -, HG⟩
  ihave Hc := (creds (F := F) c) $$ Hcr
  imodintro
  unfold start G' arr₀ recs recs₀
  icases HG with ⟨%K, ⟨HI, HR⟩, HP, HT⟩
  isplitl
  · isplitl [HI HR HP HT Hlev]
    · iexists K
      isplitl [HI HR Hlev]
      · isplitl [HI]; · iexact HI
        isplitl [HR]; · iexact HR
        iexact Hlev
      isplitl [HP]; · iexact HP
      iexact HT
    isplitl [Hc]; · iexact Hc
    isplitl [HX]; · iexact HX
    isplitl [HW]; · iexact HW
    iexists _; iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ arr₁ m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, bigSep_NK]
  unfold Φ₁ zers scr
  iintro ⟨HB, HZ, HS, HA⟩
  isplitl [HB HA]
  · isplitl [HB]; · iexact HB
    iexact HA
  isplitl [HZ]; · iexact HZ
  iexact HS

theorem stage_low : ∀ (w : Fin 2) (s : Fin (spec0 w).nbuf), ∀ k : KI, csem k ≠ .dma ((spec0 w).sem s) := fun w s k h => by
  rcases k with ⟨⟩ | k
  · cases h
  · exact ownSemFacts.disj k w s h

theorem lv_stage (c : Dev nD) (w : Fin 2) (s : Fin (spec0 w).nbuf) : lv ((c : Thread nD τ), .dma ((spec0 w).sem s)) () = 0 := by
  unfold lv
  cases h : kOf ((c : Thread nD τ), SemLoc.dma ((spec0 w).sem s)) with
  | none => rfl
  | some ck => exact absurd (congrArg Prod.snd (kOf_some h)) (stage_low w s ck.2)

theorem waits (c : Dev nD) : (levAts L lv : sProp 𝕄) ⊢ Pipeline.cellsWaits cfgs (dats m ρ) () 0 c :=
  Pipeline.cellsWaits_intro cfgs (dats m ρ) () 0 c fun w s t => by
    have hO : ∃ g s, (dats m ρ 0 c).owed t = owed c g s := by
      rcases t with ⟨_ | _, ht⟩
      · exact ⟨0, 0, rfl⟩
      · exact ⟨3, 44, by unfold owed; rw [owedW_end]; exact (zero_add _).symm⟩
    obtain ⟨g, s', h⟩ := hO
    rw [h]
    exact mayWait_low c _ (lv_stage c w s) g s'

/-! ## The run -/

theorem arr_read (c : Dev nD) (s' : Phys nD τ sig (Elt F)) :
    iprop(arr₁ m c ∗ SI s') ⊢ (⌜s'.mem.mem (lX c) = xb m c ∧ s'.mem.mem (lW c) = wb m c ∧ s'.mem.mem (lO c) = OUT m c⌝ : sProp 𝕄) := by
  unfold arr₁
  have ag {ℓ : Loc nD τ sig} (f : Buf (Elt F) ℓ) : (iprop(SI s' ∗ (ℓ ↦{fullShare} f)) : sProp 𝕄) ⊢ ⌜s'.mem.mem ℓ = f⌝ := by
    refine BIBase.Entails.trans (SI_pointsTo_agree) ?_
    iintro %h
    ipureintro
    exact funext fun i => h i (Finset.mem_univ i)
  iintro ⟨⟨HX, HW, HO⟩, HSI⟩
  ihave %h1 := (ag (ℓ := lX c) (xb m c)) $$ [HSI HX]
  · isplitl [HSI] <;> iassumption
  ihave %h2 := (ag (ℓ := lW c) (wb m c)) $$ [HSI HW]
  · isplitl [HSI] <;> iassumption
  ihave %h3 := (ag (ℓ := lO c) (OUT m c)) $$ [HSI HO]
  · isplitl [HSI] <;> iassumption
  ipureintro
  exact ⟨h1, h2, h3⟩

/-- What the run ends in: every device's argument arrays as they were, its result array as computed, every semaphore zero. -/
def QC (r : PUnit × MemSt nD τ sig (Elt F)) : Prop :=
  (∀ c : Dev nD, r.2.mem (lX c) = xb m c ∧ r.2.mem (lW c) = wb m c ∧ r.2.mem ((c : Thread nD τ).loc main_arg2) = sxb m c
      ∧ r.2.mem ((c : Thread nD τ).loc main_arg3) = swb m c ∧ r.2.mem (lO c) = OUT m c)
    ∧ r.2.sem = fun _ => 0

set_option maxRecDepth 100000 in
/-- From any memory with zero counters, every weakly fair execution of the eight devices ends so. -/
theorem run_main (hB : BodyRuns F) : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hB) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ arr₁ m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem (lX c) = xb m c ∧ s.mem (lW c) = wb m c ∧ s.mem (lO c) = OUT m c)
    (hY := fun c s' => by
      iintro ⟨⟨Hu, HA⟩, -, HSI⟩
      ihave %h := (arr_read m c s') $$ [HA HSI]
      · isplitl [HA] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, h⟩
      · iexact HSI)
    (hQ := fun s h hs => ⟨fun c => ⟨(h c).2.2.2.1, (h c).2.2.2.2.1, (h c).1 0, (h c).1 1, (h c).2.2.2.2.2⟩, sem_eq_zero hs fun c => (h c).2.2.1⟩)

end Cert.GatherProof

end
-- ==== Proof.Body.lean ====
/-
# The whole run of a device
-/
module

public import proofs.«01_k».proof.Proof.BodyA
public import proofs.«01_k».proof.Proof.BodyB
public import proofs.«01_k».proof.Proof.BodyC
public import proofs.«01_k».proof.Proof.Launch

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × KI → ℕ) (c : Dev nD)
variable {x y w e g b s f a n z : ℕ}
variable {R R0 : sProp (MT nD τ sig Unit (Elt F) ℕ UU ℕ)}

variable {α : Type} {Q : α → sProp (MT nD τ sig Unit (Elt F) ℕ UU ℕ)} {x' y' w' e' g' b' s' f' a' n' z' : ℕ}

attribute [local irreducible] Idealize.SL.Sem.wp St k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92

/-- The state is itself. -/
theorem st_rfl {P : sProp 𝕄} : P ⊢ P := BIBase.Entails.rfl

/-- A part that returns two words, and what follows read off the pair; likewise three, four and seven. -/
def seq2 {A B : Type} (p : TP F (Σ' (_ : A), B)) (k : A → B → TP F α) : TP F α := p >>= fun v => k v.1 v.2
def seq3 {A B C : Type} (p : TP F (Σ' (_ : A) (_ : B), C)) (k : A → B → C → TP F α) : TP F α := p >>= fun v => k v.1 v.2.1 v.2.2
def seq4 {A B C D : Type} (p : TP F (Σ' (_ : A) (_ : B) (_ : C), D)) (k : A → B → C → D → TP F α) : TP F α :=
  p >>= fun v => k v.1 v.2.1 v.2.2.1 v.2.2.2
def seq7 {A B C D E G H : Type} (p : TP F (Σ' (_ : A) (_ : B) (_ : C) (_ : D) (_ : E) (_ : G), H))
    (k : A → B → C → D → E → G → H → TP F α) : TP F α :=
  p >>= fun v => k v.1 v.2.1 v.2.2.1 v.2.2.2.1 v.2.2.2.2.1 v.2.2.2.2.2.1 v.2.2.2.2.2.2

/-- A sequence after such a part is the sequence read off its components. -/
theorem bind2 {A B : Type} (p : TP F (Σ' (_ : A), B)) (k : (Σ' (_ : A), B) → TP F α) : (p >>= k) = seq2 p fun a b => k ⟨a, b⟩ := rfl
theorem bind3 {A B C : Type} (p : TP F (Σ' (_ : A) (_ : B), C)) (k : (Σ' (_ : A) (_ : B), C) → TP F α) :
    (p >>= k) = seq3 p fun a b d => k ⟨a, b, d⟩ := rfl
theorem bind4 {A B C D : Type} (p : TP F (Σ' (_ : A) (_ : B) (_ : C), D)) (k : (Σ' (_ : A) (_ : B) (_ : C), D) → TP F α) :
    (p >>= k) = seq4 p fun a b d e => k ⟨a, b, d, e⟩ := rfl
theorem bind7 {A B C D E G H : Type} (p : TP F (Σ' (_ : A) (_ : B) (_ : C) (_ : D) (_ : E) (_ : G), H))
    (k : (Σ' (_ : A) (_ : B) (_ : C) (_ : D) (_ : E) (_ : G), H) → TP F α) :
    (p >>= k) = seq7 p fun a b d e f g h => k ⟨a, b, d, e, f, g, h⟩ := rfl

set_option maxHeartbeats 0 in
/-- The whole run of one device. -/
theorem body_runs : BodyRuns F := fun m K c => by
  unfold theBody
  rw [cc0_body_eq_skeleton]
  unfold cc0_body_skel
  have hh := @run_head F _ m K c
  have hm := @run_mid F _ m K c
  have ht := @run_tail F _ m K c
  simp only [bind7] at hh
  simp only [bind4] at hh hm ht
  simp only [bind3] at hh hm ht
  simp only [bind2] at hh hm ht
  refine st_bind c fun Φ hΦ => ?_
  rw [k0_part93_eq_skeleton]
  unfold k0_part93_skel
  simp only [bind7]
  simp only [bind4]
  simp only [bind3]
  simp only [bind2]
  refine hh (k := fun d0 v3 v4 v7 v10 v12 v40 => _) fun v3 v4 v7 v10 v12 => ?_
  refine hm ?_
  clear hh hm
  simp only [Prog.pure_eq_ret]
  refine st_ret c (by assumption) ?_
  refine st_bind c fun Φ' hΦ' => ?_
  rw [k0_part94_eq_skeleton]
  unfold k0_part94_skel
  simp only [bind4]
  simp only [bind3]
  simp only [bind2]
  refine ht ?_
  clear ht
  simp only [Prog.lift, Prog.bind_op, Prog.bind_ret, Prog.pure_eq_ret]
  repeat (first
    | (refine st_bind c fun Φ hΦ => ?_;
       simp only [semSignalWord, semWaitWord, smemLoad, smemLoadElt, Prog.lift, Prog.bind_op, Prog.bind_ret, Prog.pure_eq_ret])
    | (refine st_cwait m K c (by decide) (by simp only [Nat.reduceAdd]; rfl) (by rfl) (by rfl) ?_)
    | refine st_ret c (by assumption) ?_)
  simp only [Prog.pure_eq_ret]
  exact st_ret c (Q' := fun _ => St m K c 4 4 2 1 3 1 44 44 48 96 48 iprop(emp)) rfl st_rfl

end Cert.GatherProof

end
-- ==== Proof.Value.lean ====
/-
# The value: what a device ends holding is its columns of the host's result

Over the extended reals a cast to eight bits is the identity and a product of two matrices is the exact sum. An entry of
a device's result is the silu of one scaled sum, whichever piece of the gathered rows it was multiplied in, and the
host's quotient `y / (1 + exp (-y))` is the same silu.
-/
module

public import proofs.«01_k».proof.Proof.Sched
public import proofs.«01_k».proof.Proof.Gen.ReferenceIdeal
public import Idealize.ShloMosaic.Lib.MatmulPlain
public import Idealize.ShloMosaic.Lib.StackMember
public import Idealize.ShloMosaic.Lib.ValueLayout
public import Idealize.ShloMosaic.Lib.Layout
public import Idealize.ShloMosaic.Lib.Pipeline.Value
public import Idealize.ShloMosaic.PureOps.Ideal.Laws

@[expose] public section

noncomputable section

namespace Cert.GatherProof

open Cert.KernelIdeal Cert.KernelIdeal.Gen
open Idealize.ShloMosaic Idealize.ShloMosaic.TcCoe
open Idealize.ShloMosaic.ValueIdx
open scoped BigOperators

/-- The silu over the extended reals, as the device multiplies it out. -/
def sil (z : EReal) : EReal := z * Ideal.logistic z

theorem exp_nonneg (z : EReal) : 0 ≤ Ideal.exp z := by
  induction z using EReal.rec with
  | bot => exact le_refl _
  | top => exact le_top
  | coe r => exact EReal.coe_nonneg.2 (Real.exp_pos r).le

/-- The host's quotient is the device's product. -/
theorem div_sil (z : EReal) : Ideal.div z (1 + Ideal.exp (-z)) = sil z := by
  have hne : (1 + Ideal.exp (-z)) ≠ 0 :=
    ((lt_of_lt_of_le zero_lt_one (le_add_of_nonneg_right (exp_nonneg (-z))))).ne'
  unfold sil Ideal.logistic Ideal.div
  rw [if_neg hne, if_neg hne, one_mul]

/-- A piece of 128 rows, read at an entry. -/
theorem pay7_at (sc : EReal) (a : Vec Ideal S1x128x4096 .fp8e4m3) (w : Vec Ideal S4096x256 .fp8e5m2) (r : Fin 128) (n : Fin 256) :
    k0_pay7 (F := Ideal) sc a w (ix3 (0 : Fin 1) r n)
      = sil ((∑ k : Fin 4096, (a (ix3 (0 : Fin 1) r k) : EReal) * (w (ix2 k n) : EReal)) * sc) := by
  have hd : FloatOps.matmul (F := Ideal) (φ₁ := .fp8e4m3) (φ₂ := .fp8e5m2) dot_S128x4096_S4096x256_S128x256_1_0_0_1_n_n none
      (shapeCast (α := Ideal .fp8e4m3) S128x4096 a shapeCasts_S1x128x4096_S128x4096) w (constant S128x256 .f32 0x00000000#32) (ix2 r n)
      = ∑ k : Fin 4096, (a (ix3 (0 : Fin 1) r k) : EReal) * (w (ix2 k n) : EReal) := by
    refine (Ideal.matmul_plain_apply (M := 128) (K := 4096) (N := 256) (φ₁ := .fp8e4m3) (φ₂ := .fp8e5m2) none _ _ _ r n).trans ?_
    show Ideal.ofBits .f32 0x00000000#32 + _ = _
    rw [Ideal.ofBits_zero_f32, zero_add]
    exact Finset.sum_congr rfl fun k _ => by rw [shapeCast_1ab_ab_apply]
  unfold k0_pay7
  rw [shapeCast_ab_1ab_apply]
  exact congrArg (fun s : EReal => sil (s * sc)) hd

/-- A piece of 64 rows, read at an entry. -/
theorem pay15_at (sc : EReal) (a : Vec Ideal S1x64x4096 .fp8e4m3) (w : Vec Ideal S4096x256 .fp8e5m2) (r : Fin 64) (n : Fin 256) :
    k0_pay15 (F := Ideal) sc a w (ix3 (0 : Fin 1) r n)
      = sil ((∑ k : Fin 4096, (a (ix3 (0 : Fin 1) r k) : EReal) * (w (ix2 k n) : EReal)) * sc) := by
  have hd : FloatOps.matmul (F := Ideal) (φ₁ := .fp8e4m3) (φ₂ := .fp8e5m2) dot_S64x4096_S4096x256_S64x256_1_0_0_1_n_n none
      (shapeCast (α := Ideal .fp8e4m3) S64x4096 a shapeCasts_S1x64x4096_S64x4096) w (constant S64x256 .f32 0x00000000#32) (ix2 r n)
      = ∑ k : Fin 4096, (a (ix3 (0 : Fin 1) r k) : EReal) * (w (ix2 k n) : EReal) := by
    refine (Ideal.matmul_plain_apply (M := 64) (K := 4096) (N := 256) (φ₁ := .fp8e4m3) (φ₂ := .fp8e5m2) none _ _ _ r n).trans ?_
    show Ideal.ofBits .f32 0x00000000#32 + _ = _
    rw [Ideal.ofBits_zero_f32, zero_add]
    exact Finset.sum_congr rfl fun k _ => by rw [shapeCast_1ab_ab_apply]
  unfold k0_pay15
  rw [shapeCast_ab_1ab_apply]
  exact congrArg (fun s : EReal => sil (s * sc)) hd

section
variable (m : (ℓ : Loc nD τ sig) → Buf (Elt Ideal) ℓ)

/-- Row `r` of the chunk of device `k`, in whichever piece it is multiplied. -/
theorem rdX_at (n k o : ℕ) (hk : k < 8) (r : Fin n) (l : Fin 4096) (ho : o + r.val < 512) :
    rdX (F := Ideal) m n k o (ix3 (0 : Fin 1) r l) = xb m ⟨k, hk⟩ (ix2 ⟨o + r.val, ho⟩ l) := by
  have e1 : (⟨k % 8, Nat.mod_lt _ (by decide)⟩ : Fin 8) = ⟨k, hk⟩ := Fin.ext (Nat.mod_eq_of_lt hk)
  have e2 : (⟨(o + r.val) % 512, Nat.mod_lt _ (by decide)⟩ : Fin 512) = ⟨o + r.val, ho⟩ := Fin.ext (Nat.mod_eq_of_lt ho)
  show xb m (⟨k % 8, Nat.mod_lt _ (by decide)⟩ : Fin 8) (ix2 (⟨(o + r.val) % 512, Nat.mod_lt _ (by decide)⟩ : Fin 512) l) = _
  rw [e1, e2]

/-- The device's cast columns are its columns. -/
theorem W8_at (c : Dev nD) (k : Fin 4096) (n : Fin 256) : W8 (F := Ideal) m c (ix2 k n) = wb m c (ix2 k n) := by
  unfold W8 k0_pay6
  exact congrFun (shapeCast_self _ _) _

/-- An entry of a device's result. -/
theorem OUT_at (c : Dev nD) (i : Fin 4096) (n : Fin 256) (ch : Fin 8) (r : Fin 512) (hi : i.val = ch.val * 512 + r.val) :
    OUT (F := Ideal) m c (ix2 i n)
      = sil ((∑ k : Fin 4096, (xb m ch (ix2 r k) : EReal) * (wb m c (ix2 k n) : EReal)) * scl (F := Ideal) m c) := by
  have hr := r.isLt
  have e1 : (⟨i.val / 512, by have := i.isLt; omega⟩ : Fin 8) = ch := Fin.ext (by show i.val / 512 = ch.val; omega)
  have e2 : (⟨i.val % 512, Nat.mod_lt _ (by decide)⟩ : Fin 512) = r := Fin.ext (by show i.val % 512 = r.val; omega)
  show OB m c (ix3 (⟨i.val / 512, _⟩ : Fin 8) (⟨i.val % 512, _⟩ : Fin 512) n) = _
  rw [e1, e2]
  have key : ∀ p : ℕ, 0 < p → ∀ (q : Fin p) (hq : q.val = r.val % p) (k : Fin 4096),
      rdX (F := Ideal) m p ch.val (r.val / p * p) (ix3 (0 : Fin 1) q k) = xb m ch (ix2 r k) := fun p hp q hq k => by
    have hs : r.val / p * p + q.val = r.val := by rw [hq]; exact Nat.div_add_mod' _ _
    rw [rdX_at m p ch.val _ ch.isLt q k (by rw [hs]; exact hr)]
    exact congrArg (fun z => xb m ch (ix2 z k)) (Fin.ext hs)
  show (if ch.val / 4 = c.val / 4 then k0_pay7 (scl m c) (rdX m 128 ch.val (r.val / 128 * 128)) (W8 m c) (ix3 (0 : Fin 1) (⟨r.val % 128, _⟩ : Fin 128) n)
    else k0_pay15 (scl m c) (rdX m 64 ch.val (r.val / 64 * 64)) (W8 m c) (ix3 (0 : Fin 1) (⟨r.val % 64, _⟩ : Fin 64) n)) = _
  split
  · rw [pay7_at]
    exact congrArg (fun s : EReal => sil (s * scl (F := Ideal) m c)) (Finset.sum_congr rfl fun k _ => by rw [key 128 (by decide) _ rfl k, W8_at])
  · rw [pay15_at]
    exact congrArg (fun s : EReal => sil (s * scl (F := Ideal) m c)) (Finset.sum_congr rfl fun k _ => by rw [key 64 (by decide) _ rfl k, W8_at])

end

/-- The host's result over whole arrays. -/
def specV (x : FVec Ideal ⟨2, ![4096, 4096]⟩ .f32) (w : FVec Ideal ⟨2, ![4096, 2048]⟩ .f32) (sx sw : FVec Ideal ⟨1, ![1]⟩ .f32) :
    FVec Ideal ⟨2, ![4096, 2048]⟩ .f32 := fun i =>
  sil ((∑ k : Fin 4096, (x (ix2 (i 0) k) : EReal) * (w (ix2 k (i 1)) : EReal)) * ((sx (ix1 (0 : Fin 1)) : EReal) * (sw (ix1 (0 : Fin 1)) : EReal)))

/-- A device's result is its block of columns of the host's. -/
theorem OUT_block (m : (ℓ : Loc nD τ sig) → Buf (Elt Ideal) ℓ)
    (x : FVec Ideal ⟨2, ![4096, 4096]⟩ .f32) (w : FVec Ideal ⟨2, ![4096, 2048]⟩ .f32) (sx sw : FVec Ideal ⟨1, ![1]⟩ .f32)
    (hx : ∀ c : Dev nD, xb m c = Layout.block ⟨2, ![512, 4096]⟩ ⟨2, ![4096, 4096]⟩ 0 8 c x)
    (hw : ∀ c : Dev nD, wb m c = Layout.block ⟨2, ![4096, 256]⟩ ⟨2, ![4096, 2048]⟩ 1 8 c w)
    (hsx : ∀ c : Dev nD, sxb m c = sx) (hsw : ∀ c : Dev nD, swb m c = sw) (c : Dev nD) :
    OUT (F := Ideal) m c = Layout.block ⟨2, ![4096, 256]⟩ ⟨2, ![4096, 2048]⟩ 1 8 c (specV x w sx sw) := by
  funext i
  obtain ⟨r, n, rfl⟩ : ∃ (r : Fin 4096) (n : Fin 256), i = ix2 r n := ⟨i 0, i 1, eq_ix2 i⟩
  have hr := r.isLt
  rw [OUT_at m c r n ⟨r.val / 512, by omega⟩ ⟨r.val % 512, Nat.mod_lt _ (by decide)⟩ (by show r.val = r.val / 512 * 512 + r.val % 512; omega)]
  have hs : scl (F := Ideal) m c = ((sx (ix1 (0 : Fin 1)) : EReal) * (sw (ix1 (0 : Fin 1)) : EReal)) := by
    show (sxb m c (ix1 (0 : Fin 1)) : EReal) * (swb m c (ix1 (0 : Fin 1)) : EReal) = _
    rw [hsx, hsw]
  rw [hs, hx, hw]
  show _ = sil ((∑ k : Fin 4096, _) * _)
  refine congrArg (fun s : EReal => sil (s * ((sx (ix1 (0 : Fin 1)) : EReal) * (sw (ix1 (0 : Fin 1)) : EReal)))) (Finset.sum_congr rfl fun k _ => ?_)
  refine congrArg₂ (fun a b : EReal => a * b) (congrArg x ?_) (congrArg w ?_)
  · funext a
    apply Fin.ext
    match a with
    | ⟨0, _⟩ => show r.val / 512 * 512 + r.val % 512 = r.val; omega
    | ⟨1, _⟩ => rfl
  · funext a
    apply Fin.ext
    match a with
    | ⟨0, _⟩ => rfl
    | ⟨1, _⟩ => rfl

end Cert.GatherProof

end
-- ==== Proof.Ref.lean ====
/-
# The host's run

The reference runs on one device. Its quotient, read at an entry, is the silu of the scaled sum.
-/
module

public import proofs.«01_k».proof.Proof.Value
public import proofs.«01_k».proof.Proof.Gen.ReferenceIdeal.Run
public import Idealize.ShloMosaic.Lib.IdealHost

@[expose] public section

noncomputable section

namespace Cert.GatherProof.Host

open Cert.ReferenceIdeal Cert.ReferenceIdeal.Gen
open Idealize.ShloMosaic Idealize.SL.Sem Idealize.ShloMosaic.TcCoe
open Idealize.ShloMosaic.ValueIdx
open scoped BigOperators

variable (x : FVec Ideal S4096x4096 .f32) (w : FVec Ideal S4096x2048 .f32) (sx sw : FVec Ideal S1 .f32)

/-- The scaled product, before the silu. -/
def scaled : FVec Ideal S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf sx sw)))

theorem scaled_at (i : Fin 4096) (j : Fin 2048) :
    scaled x w sx sw (ix2 i j)
      = (∑ k : Fin 4096, (x (ix2 i k) : EReal) * (w (ix2 k j) : EReal)) * ((sx (ix1 (0 : Fin 1)) : EReal) * (sw (ix1 (0 : Fin 1)) : EReal)) := by
  have hd : Host.dotGeneral (F := Ideal) dot_S4096x4096_S4096x2048_S4096x2048_1_0_0_1_n_n none x w (ix2 i j)
      = ∑ k : Fin 4096, (x (ix2 i k) : EReal) * (w (ix2 k j) : EReal) :=
    StackMember.dotGeneral_plain_apply (m := 4096) (k := 4096) (n := 2048) none x w i j
  have hone : ∀ q : (S1).Idx, q = ix1 (0 : Fin 1) := fun q => by
    funext a
    match a with
    | ⟨0, _⟩ => exact Fin.ext (by have := (q 0).isLt; change (q 0).val < 1 at this; show (q 0).val = 0; omega)
  have hb : broadcastInDim S4096x2048 ![0, 1] bcast_S1x1_S4096x2048_0_1 (broadcastInDim S1x1 ![1] bcast_S1_S1x1_1 (mulf sx sw)) (ix2 i j)
      = mulf sx sw (ix1 (0 : Fin 1)) := congrArg (mulf sx sw) (hone _)
  exact congrArg₂ (fun a b : EReal => a * b) hd hb

/-- The host's quotient is the silu of the scaled product. -/
theorem quotient_eq :
    Host.divf (scaled x w sx sw)
        (addf (broadcastInDim S4096x2048 ![] bcast_S_S4096x2048 (constant S_ .f32 0x3F800000#32)) (Host.exp (Host.negf (scaled x w sx sw))))
      = specV x w sx sw := by
  funext q
  obtain ⟨i, j, rfl⟩ : ∃ (i : Fin 4096) (j : Fin 2048), q = ix2 i j := ⟨q 0, q 1, eq_ix2 q⟩
  show Ideal.div (scaled x w sx sw (ix2 i j)) (Ideal.ofBits .f32 0x3F800000#32 + Ideal.exp (-(scaled x w sx sw (ix2 i j)))) = _
  rw [Ideal.ofBits_one_f32, div_sil, scaled_at]
  rfl

/-- From any memory the reference ends with its result the host's value and its arguments unchanged, every counter zero. -/
theorem run_main (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v9) = specV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono
    (fun r h => ⟨fun c => ⟨(h c).1.trans (quotient_eq _ _ _ _), (h c).2⟩, sem_eq_zero_of_no_sems (by decide) r.2⟩)
    (Cert.ReferenceIdeal.Value.run (F := Ideal) m ρ)

end Cert.GatherProof.Host

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body
public import proofs.«01_k».proof.Proof.Launch
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

set_option maxHeartbeats 0 in
set_option smartUnfolding false in
set_option maxRecDepth 100000 in
/-- The kernel's own arithmetic: its arguments end unchanged and its counters at zero. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1⟩, h.2⟩)
    (Cert.GatherProof.run_main (F := Bits) m ρ Cert.GatherProof.body_runs)

/-- The same over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.GatherProof.run_main (F := Ideal) m ρ Cert.GatherProof.body_runs)

/-- The reference ends with its arguments unchanged and its counters at zero. -/
theorem frame_reference : Cert.quiescent_ReferenceIdeal := fun m ρ _ =>
  (θ_run Cert.ReferenceIdeal.defs _ _).mono (fun _ h => ⟨fun c => (h.1 c).2, h.2⟩) (Cert.GatherProof.Host.run_main m ρ)

/-- Every device's result is its block of columns of the reference's result. -/
theorem value : Cert.algebraic_KernelIdeal_ReferenceIdeal := fun m ρ m' ρ' _ hag => by
  refine ⟨_, (θ_run Cert.KernelIdeal.defs _ _).mono (fun _ h c => ⟨(h.1 c).2.2.2.2.trans ?_, (h.1 c).1, (h.1 c).2.1, (h.1 c).2.2.1, (h.1 c).2.2.2.1⟩)
      (Cert.GatherProof.run_main (F := Ideal) m ρ Cert.GatherProof.body_runs),
    (θ_run Cert.ReferenceIdeal.defs _ _).mono (fun _ h => h.1 0) (Cert.GatherProof.Host.run_main m' ρ')⟩
  exact Cert.GatherProof.OUT_block m _ _ _ _ (fun c => (hag c).1) (fun c => (hag c).2.1) (fun c => (hag c).2.2.1) (fun c => (hag c).2.2.2) c

theorem claim : Cert.Claim := ⟨Cert.Kernel.Gen.facts, Cert.KernelIdeal.Gen.facts, Cert.ReferenceIdeal.Gen.facts,
  frame_kernel, frame_ideal, frame_reference, trivial, value⟩

end Cert.Proof

end
